-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_values)) (v1 : (c : Dev Cert.KernelIdeal.nD) → Buf (Elt Ideal) ((c.tc : Thread Cert.KernelIdeal.nD Cert.KernelIdeal.τ).loc Cert.KernelIdeal.main_indices)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_values) = v0 c
          ∧ r.2.mem ((c.tc : Thread Cert.KernelIdeal.nD Cert.KernelIdeal.τ).loc Cert.KernelIdeal.main_indices) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x128x128 : Shape := ⟨4, ![4, 384, 128, 128]⟩
abbrev S192x384x3x3 : Shape := ⟨4, ![192, 384, 3, 3]⟩
abbrev S192 : Shape := ⟨1, ![192]⟩
abbrev S1x192x1x1 : Shape := ⟨4, ![1, 192, 1, 1]⟩
abbrev S1 : Shape := ⟨1, ![1]⟩
abbrev S4x384x16384 : Shape := ⟨3, ![4, 384, 16384]⟩
abbrev S192x3x3x384 : Shape := ⟨4, ![192, 3, 3, 384]⟩
abbrev S192x3456 : Shape := ⟨2, ![192, 3456]⟩
abbrev S1x192 : Shape := ⟨2, ![1, 192]⟩
abbrev S192x1 : Shape := ⟨2, ![192, 1]⟩
abbrev S1x1 : Shape := ⟨2, ![1, 1]⟩
abbrev S4x1x16384 : Shape := ⟨3, ![4, 1, 16384]⟩
abbrev S1x384x16384 : Shape := ⟨3, ![1, 384, 16384]⟩
abbrev S1x1x16384 : Shape := ⟨3, ![1, 1, 16384]⟩
abbrev S1x2048 : Shape := ⟨2, ![1, 2048]⟩
abbrev S1x384x2048 : Shape := ⟨3, ![1, 384, 2048]⟩
abbrev S384x2048 : Shape := ⟨2, ![384, 2048]⟩
abbrev S384x1 : Shape := ⟨2, ![384, 1]⟩
abbrev S384x2047 : Shape := ⟨2, ![384, 2047]⟩
abbrev S384x128 : Shape := ⟨2, ![384, 128]⟩
abbrev S384x1920 : Shape := ⟨2, ![384, 1920]⟩
abbrev S3456x2048 : Shape := ⟨2, ![3456, 2048]⟩
abbrev S192x2048 : Shape := ⟨2, ![192, 2048]⟩
abbrev S2048 : Shape := ⟨1, ![2048]⟩
abbrev S1x1x2048 : Shape := ⟨3, ![1, 1, 2048]⟩
abbrev S4x16384 : Shape := ⟨2, ![4, 16384]⟩
abbrev S4x1000 : Shape := ⟨2, ![4, 1000]⟩
abbrev S_ : Shape := ⟨0, ![]⟩
abbrev S4x1000x1 : Shape := ⟨3, ![4, 1000, 1]⟩
abbrev S4x1000x2 : Shape := ⟨3, ![4, 1000, 2]⟩

abbrev nBuf : Space → Nat
  | .hbm => 69
  | .vmem => 8
  | .smem => 0
  | _ => 0

abbrev bufTy : (tb : Table) → Fin (tcTables nBuf tb) → BufTy
  | .hbm, ⟨0, _⟩ => ⟨S4x384x128x128, .f32⟩
  | .hbm, ⟨1, _⟩ => ⟨S192x384x3x3, .f32⟩
  | .hbm, ⟨2, _⟩ => ⟨S192, .f32⟩
  | .hbm, ⟨3, _⟩ => ⟨S1x192x1x1, .f32⟩
  | .hbm, ⟨4, _⟩ => ⟨S1, .f32⟩
  | .hbm, ⟨5, _⟩ => ⟨S4x384x16384, .f32⟩
  | .hbm, ⟨6, _⟩ => ⟨S4x384x16384, .bf16⟩
  | .hbm, ⟨7, _⟩ => ⟨S192x3x3x384, .f32⟩
  | .hbm, ⟨8, _⟩ => ⟨S192x3456, .f32⟩
  | .hbm, ⟨9, _⟩ => ⟨S192x3456, .bf16⟩
  | .hbm, ⟨10, _⟩ => ⟨S1x192, .f32⟩
  | .hbm, ⟨11, _⟩ => ⟨S1x192, .bf16⟩
  | .hbm, ⟨12, _⟩ => ⟨S192x1, .f32⟩
  | .hbm, ⟨13, _⟩ => ⟨S1x1, .f32⟩
  | .hbm, ⟨14, _⟩ => ⟨S4x1x16384, .f32⟩
  | .hbm, ⟨15, _⟩ => ⟨S4x16384, .f32⟩
  | .hbm, ⟨16, _⟩ => ⟨S4x1000, .f32⟩
  | .hbm, ⟨17, _⟩ => ⟨S4x1000, .i32⟩
  | .hbm, ⟨18, _⟩ => ⟨S_, .i32⟩
  | .hbm, ⟨19, _⟩ => ⟨S_, .i32⟩
  | .hbm, ⟨20, _⟩ => ⟨S4x1000, .i32⟩
  | .hbm, ⟨21, _⟩ => ⟨S4x1000, .i32⟩
  | .hbm, ⟨22, _⟩ => ⟨S4x1000, .i32⟩
  | .hbm, ⟨23, _⟩ => ⟨S_, .i32⟩
  | .hbm, ⟨24, _⟩ => ⟨S4x1000, .i32⟩
  | .hbm, ⟨25, _⟩ => ⟨S4x1000, .i1⟩
  | .hbm, ⟨26, _⟩ => ⟨S4x1000, .i32⟩
  | .hbm, ⟨27, _⟩ => ⟨S4x1000, .i32⟩
  | .hbm, ⟨28, _⟩ => ⟨S_, .i32⟩
  | .hbm, ⟨29, _⟩ => ⟨S4x1000, .i32⟩
  | .hbm, ⟨30, _⟩ => ⟨S4x1000, .i1⟩
  | .hbm, ⟨31, _⟩ => ⟨S4x1000, .i1⟩
  | .hbm, ⟨32, _⟩ => ⟨S_, .i32⟩
  | .hbm, ⟨33, _⟩ => ⟨S4x1000, .i32⟩
  | .hbm, ⟨34, _⟩ => ⟨S4x1000, .i32⟩
  | .hbm, ⟨35, _⟩ => ⟨S4x1000, .i32⟩
  | .hbm, ⟨36, _⟩ => ⟨S4x1000, .f32⟩
  | .hbm, ⟨37, _⟩ => ⟨S_, .f32⟩
  | .hbm, ⟨38, _⟩ => ⟨S4x1000, .f32⟩
  | .hbm, ⟨39, _⟩ => ⟨S4x1000, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S4x1000, .i32⟩
  | .hbm, ⟨47, _⟩ => ⟨S4x1000, .i32⟩
  | .hbm, ⟨48, _⟩ => ⟨S_, .i32⟩
  | .hbm, ⟨49, _⟩ => ⟨S4x1000, .i32⟩
  | .hbm, ⟨50, _⟩ => ⟨S4x1000, .i1⟩
  | .hbm, ⟨51, _⟩ => ⟨S_, .i32⟩
  | .hbm, ⟨52, _⟩ => ⟨S4x1000, .i32⟩
  | .hbm, ⟨53, _⟩ => ⟨S4x1000, .i1⟩
  | .hbm, ⟨54, _⟩ => ⟨S_, .i32⟩
  | .hbm, ⟨55, _⟩ => ⟨S_, .i1⟩
  | .hbm, ⟨56, _⟩ => ⟨S4x1000, .i1⟩
  | .hbm, ⟨57, _⟩ => ⟨S4x1000, .i1⟩
  | .hbm, ⟨58, _⟩ => ⟨S4x1000, .i1⟩
  | .hbm, ⟨59, _⟩ => ⟨S4x1000, .i32⟩
  | .hbm, ⟨60, _⟩ => ⟨S4x1000, .i32⟩
  | .hbm, ⟨61, _⟩ => ⟨S4x1000, .i32⟩
  | .hbm, ⟨62, _⟩ => ⟨S4x1000, .f32⟩
  | .hbm, ⟨63, _⟩ => ⟨S_, .f32⟩
  | .hbm, ⟨64, _⟩ => ⟨S4x1000, .f32⟩
  | .hbm, ⟨65, _⟩ => ⟨S4x1000, .f32⟩
  | .hbm, ⟨66, _⟩ => ⟨S4x1000x1, .f32⟩
  | .hbm, ⟨67, _⟩ => ⟨S4x1000x1, .f32⟩
  | .hbm, ⟨68, _⟩ => ⟨S4x1000x2, .f32⟩
  | .local _ .vmem, ⟨0, _⟩ => ⟨S1x384x16384, .bf16⟩
  | .local _ .vmem, ⟨1, _⟩ => ⟨S1x384x16384, .bf16⟩
  | .local _ .vmem, ⟨2, _⟩ => ⟨S192x3456, .bf16⟩
  | .local _ .vmem, ⟨3, _⟩ => ⟨S192x1, .f32⟩
  | .local _ .vmem, ⟨4, _⟩ => ⟨S1x192, .bf16⟩
  | .local _ .vmem, ⟨5, _⟩ => ⟨S1x1, .f32⟩
  | .local _ .vmem, ⟨6, _⟩ => ⟨S1x1x16384, .f32⟩
  | .local _ .vmem, ⟨7, _⟩ => ⟨S1x1x16384, .f32⟩
  | _, _ => ⟨S4x384x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_values : Ref sig .tc := ⟨.hbm, 16, rfl⟩
abbrev main_indices : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_c_0 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_v5 : Ref sig .tc := ⟨.hbm, 49, rfl⟩
abbrev main_call1_v6 : Ref sig .tc := ⟨.hbm, 50, rfl⟩
abbrev main_call1_c_2 : Ref sig .tc := ⟨.hbm, 51, rfl⟩
abbrev main_call1_v7 : Ref sig .tc := ⟨.hbm, 52, rfl⟩
abbrev main_call1_v8 : Ref sig .tc := ⟨.hbm, 53, rfl⟩
abbrev main_call1_c_3 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_v15 : Ref sig .tc := ⟨.hbm, 61, rfl⟩
abbrev main_v16 : Ref sig .tc := ⟨.hbm, 62, rfl⟩
abbrev main_cst_1 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x384x128x128 : Shape := ⟨4, ![4, 384, 128, 128]⟩
abbrev S192x384x3x3 : Shape := ⟨4, ![192, 384, 3, 3]⟩
abbrev S192 : Shape := ⟨1, ![192]⟩
abbrev S1x192x1x1 : Shape := ⟨4, ![1, 192, 1, 1]⟩
abbrev S1 : Shape := ⟨1, ![1]⟩
abbrev S_ : Shape := ⟨0, ![]⟩
abbrev S4x384x130x130 : Shape := ⟨4, ![4, 384, 130, 130]⟩
abbrev S4x192x128x128 : Shape := ⟨4, ![4, 192, 128, 128]⟩
abbrev S192x384x1x1 : Shape := ⟨4, ![192, 384, 1, 1]⟩
abbrev S192x384 : Shape := ⟨2, ![192, 384]⟩
abbrev S4x128x128x192 : Shape := ⟨4, ![4, 128, 128, 192]⟩
abbrev S1x192 : Shape := ⟨2, ![1, 192]⟩
abbrev S4x128x128x1 : Shape := ⟨4, ![4, 128, 128, 1]⟩
abbrev S4x1x128x128 : Shape := ⟨4, ![4, 1, 128, 128]⟩
abbrev S1x1x1x1 : Shape := ⟨4, ![1, 1, 1, 1]⟩
abbrev S4x16384 : Shape := ⟨2, ![4, 16384]⟩
abbrev S4x1000 : Shape := ⟨2, ![4, 1000]⟩
abbrev S4x1000x1 : Shape := ⟨3, ![4, 1000, 1]⟩
abbrev S4x1000x2 : Shape := ⟨3, ![4, 1000, 2]⟩

abbrev nBuf : Space → Nat
  | .hbm => 138
  | .vmem => 0
  | .smem => 0
  | _ => 0

abbrev hbmTy0_0 (i : Nat) : BufTy := match i % 128 with
  | 0 => ⟨S4x384x128x128, .f32⟩
  | 1 => ⟨S192x384x3x3, .f32⟩
  | 2 => ⟨S192, .f32⟩
  | 3 => ⟨S1x192x1x1, .f32⟩
  | 4 => ⟨S1, .f32⟩
  | 5 => ⟨S_, .i32⟩
  | 6 => ⟨S_, .f32⟩
  | 7 => ⟨S4x384x130x130, .f32⟩
  | 8 => ⟨S_, .f32⟩
  | 9 => ⟨S4x192x128x128, .f32⟩
  | 10 => ⟨S192x384x1x1, .f32⟩
  | 11 => ⟨S192x384, .f32⟩
  | 12 => ⟨S4x384x128x128, .f32⟩
  | 13 => ⟨S4x128x128x192, .f32⟩
  | 14 => ⟨S4x192x128x128, .f32⟩
  | 15 => ⟨S4x192x128x128, .f32⟩
  | 16 => ⟨S192x384x1x1, .f32⟩
  | 17 => ⟨S192x384, .f32⟩
  | 18 => ⟨S4x384x128x128, .f32⟩
  | 19 => ⟨S4x128x128x192, .f32⟩
  | 20 => ⟨S4x192x128x128, .f32⟩
  | 21 => ⟨S4x192x128x128, .f32⟩
  | 22 => ⟨S192x384x1x1, .f32⟩
  | 23 => ⟨S192x384, .f32⟩
  | 24 => ⟨S4x384x128x128, .f32⟩
  | 25 => ⟨S4x128x128x192, .f32⟩
  | 26 => ⟨S4x192x128x128, .f32⟩
  | 27 => ⟨S4x192x128x128, .f32⟩
  | 28 => ⟨S192x384x1x1, .f32⟩
  | 29 => ⟨S192x384, .f32⟩
  | 30 => ⟨S4x384x128x128, .f32⟩
  | 31 => ⟨S4x128x128x192, .f32⟩
  | 32 => ⟨S4x192x128x128, .f32⟩
  | 33 => ⟨S4x192x128x128, .f32⟩
  | 34 => ⟨S192x384x1x1, .f32⟩
  | 35 => ⟨S192x384, .f32⟩
  | 36 => ⟨S4x384x128x128, .f32⟩
  | 37 => ⟨S4x128x128x192, .f32⟩
  | 38 => ⟨S4x192x128x128, .f32⟩
  | 39 => ⟨S4x192x128x128, .f32⟩
  | 40 => ⟨S192x384x1x1, .f32⟩
  | 41 => ⟨S192x384, .f32⟩
  | 42 => ⟨S4x384x128x128, .f32⟩
  | 43 => ⟨S4x128x128x192, .f32⟩
  | 44 => ⟨S4x192x128x128, .f32⟩
  | 45 => ⟨S4x192x128x128, .f32⟩
  | 46 => ⟨S192x384x1x1, .f32⟩
  | 47 => ⟨S192x384, .f32⟩
  | 48 => ⟨S4x384x128x128, .f32⟩
  | 49 => ⟨S4x128x128x192, .f32⟩
  | 50 => ⟨S4x192x128x128, .f32⟩
  | 51 => ⟨S4x192x128x128, .f32⟩
  | 52 => ⟨S192x384x1x1, .f32⟩
  | 53 => ⟨S192x384, .f32⟩
  | 54 => ⟨S4x384x128x128, .f32⟩
  | 55 => ⟨S4x128x128x192, .f32⟩
  | 56 => ⟨S4x192x128x128, .f32⟩
  | 57 => ⟨S4x192x128x128, .f32⟩
  | 58 => ⟨S192x384x1x1, .f32⟩
  | 59 => ⟨S192x384, .f32⟩
  | 60 => ⟨S4x384x128x128, .f32⟩
  | 61 => ⟨S4x128x128x192, .f32⟩
  | 62 => ⟨S4x192x128x128, .f32⟩
  | 63 => ⟨S4x192x128x128, .f32⟩
  | 64 => ⟨S1x192x1x1, .f32⟩
  | 65 => ⟨S4x192x128x128, .f32⟩
  | 66 => ⟨S4x192x128x128, .f32⟩
  | 67 => ⟨S_, .f32⟩
  | 68 => ⟨S4x192x128x128, .f32⟩
  | 69 => ⟨S4x192x128x128, .f32⟩
  | 70 => ⟨S1x192, .f32⟩
  | 71 => ⟨S4x128x128x1, .f32⟩
  | 72 => ⟨S4x1x128x128, .f32⟩
  | 73 => ⟨S1x1x1x1, .f32⟩
  | 74 => ⟨S4x1x128x128, .f32⟩
  | 75 => ⟨S4x1x128x128, .f32⟩
  | 76 => ⟨S4x1x128x128, .f32⟩
  | 77 => ⟨S4x1x128x128, .f32⟩
  | 78 => ⟨S_, .f32⟩
  | 79 => ⟨S4x1x128x128, .f32⟩
  | 80 => ⟨S4x1x128x128, .f32⟩
  | 81 => ⟨S_, .f32⟩
  | 82 => ⟨S4x1x128x128, .f32⟩
  | 83 => ⟨S4x1x128x128, .f32⟩
  | 84 => ⟨S4x16384, .f32⟩
  | 85 => ⟨S4x1000, .f32⟩
  | 86 => ⟨S4x1000, .i32⟩
  | 87 => ⟨S_, .i32⟩
  | 88 => ⟨S_, .i32⟩
  | 89 => ⟨S4x1000, .i32⟩
  | 90 => ⟨S4x1000, .i32⟩
  | 91 => ⟨S4x1000, .i32⟩
  | 92 => ⟨S_, .i32⟩
  | 93 => ⟨S4x1000, .i32⟩
  | 94 => ⟨S4x1000, .i1⟩
  | 95 => ⟨S4x1000, .i32⟩
  | 96 => ⟨S4x1000, .i32⟩
  | 97 => ⟨S_, .i32⟩
  | 98 => ⟨S4x1000, .i32⟩
  | 99 => ⟨S4x1000, .i1⟩
  | 100 => ⟨S4x1000, .i1⟩
  | 101 => ⟨S_, .i32⟩
  | 102 => ⟨S4x1000, .i32⟩
  | 103 => ⟨S4x1000, .i32⟩
  | 104 => ⟨S4x1000, .i32⟩
  | 105 => ⟨S4x1000, .f32⟩
  | 106 => ⟨S_, .f32⟩
  | 107 => ⟨S4x1000, .f32⟩
  | 108 => ⟨S4x1000, .f32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S4x1000, .i32⟩
  | 116 => ⟨S4x1000, .i32⟩
  | 117 => ⟨S_, .i32⟩
  | 118 => ⟨S4x1000, .i32⟩
  | 119 => ⟨S4x1000, .i1⟩
  | 120 => ⟨S_, .i32⟩
  | 121 => ⟨S4x1000, .i32⟩
  | 122 => ⟨S4x1000, .i1⟩
  | 123 => ⟨S_, .i32⟩
  | 124 => ⟨S_, .i1⟩
  | 125 => ⟨S4x1000, .i1⟩
  | 126 => ⟨S4x1000, .i1⟩
  | 127 => ⟨S4x1000, .i1⟩
  | _ => ⟨S4x384x128x128, .f32⟩

abbrev hbmTy0_1 (i : Nat) : BufTy := match i % 128 with
  | 0 => ⟨S4x1000, .i32⟩
  | 1 => ⟨S4x1000, .i32⟩
  | 2 => ⟨S4x1000, .i32⟩
  | 3 => ⟨S4x1000, .f32⟩
  | 4 => ⟨S_, .f32⟩
  | 5 => ⟨S4x1000, .f32⟩
  | 6 => ⟨S4x1000, .f32⟩
  | 7 => ⟨S4x1000x1, .f32⟩
  | 8 => ⟨S4x1000x1, .f32⟩
  | 9 => ⟨S4x1000x2, .f32⟩
  | _ => ⟨S4x384x128x128, .f32⟩

abbrev hbmTy (i : Nat) : BufTy := match i / 128 with
  | 0 => hbmTy0_0 i
  | 1 => hbmTy0_1 i
  | _ => ⟨S4x384x128x128, .f32⟩

abbrev bufTy : (tb : Table) → Fin (tcTables nBuf tb) → BufTy
  | .hbm, ⟨i, _⟩ => hbmTy i
  | _, _ => ⟨S4x384x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_call1_cst : Ref sig .tc := ⟨.hbm, 67, rfl⟩
abbrev main_call1_v0 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst_0 : Ref sig .tc := ⟨.hbm, 78, rfl⟩
abbrev main_v68 : Ref sig .tc := ⟨.hbm, 79, rfl⟩
abbrev main_v69 : Ref sig .tc := ⟨.hbm, 80, rfl⟩
abbrev main_cst_1 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_values : Ref sig .tc := ⟨.hbm, 85, rfl⟩
abbrev main_indices : Ref sig .tc := ⟨.hbm, 86, rfl⟩
abbrev main_c_2 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_c : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_0 : Ref sig .tc := ⟨.hbm, 101, rfl⟩
abbrev main_call2_v12 : Ref sig .tc := ⟨.hbm, 102, rfl⟩
abbrev main_call2_v13 : Ref sig .tc := ⟨.hbm, 103, rfl⟩
abbrev main_v73 : Ref sig .tc := ⟨.hbm, 104, rfl⟩
abbrev main_v74 : Ref sig .tc := ⟨.hbm, 105, rfl⟩
abbrev main_cst_3 : Ref sig .tc := ⟨.hbm, 106, rfl⟩
abbrev main_v75 : Ref sig .tc := ⟨.hbm, 107, rfl⟩
abbrev main_v76 : Ref sig .tc := ⟨.hbm, 108, rfl⟩
abbrev main_c_4 : Ref sig .tc := ⟨.hbm, 109, rfl⟩
abbrev main_call3_v0 : Ref sig .tc := ⟨.hbm, 110, rfl⟩
abbrev main_call3_c : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_c_1 : Ref sig .tc := ⟨.hbm, 117, rfl⟩
abbrev main_call3_v5 : Ref sig .tc := ⟨.hbm, 118, rfl⟩
abbrev main_call3_v6 : Ref sig .tc := ⟨.hbm, 119, rfl⟩
abbrev main_call3_c_2 : Ref sig .tc := ⟨.hbm, 120, rfl⟩
abbrev main_call3_v7 : Ref sig .tc := ⟨.hbm, 121, rfl⟩
abbrev main_call3_v8 : Ref sig .tc := ⟨.hbm, 122, rfl⟩
abbrev main_call3_c_3 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_v77 : Ref sig .tc := ⟨.hbm, 130, rfl⟩
abbrev main_v78 : Ref sig .tc := ⟨.hbm, 131, rfl⟩
abbrev main_cst_5 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩

abbrev nD : Nat := 1
abbrev τ : Topo := Topo.v7x

variable {F : FTy → Type} [FloatOps F]
-- ==== Proof.Block.lean ====
/- What the kernel computes for one block of 2048 columns, in a few words of its own.

   The body handles eight blocks of 2048 columns of the flattened 128 x 128 image. Each block takes nine
   sections of 384 channels (one per tap of the 3 x 3 filter), stacks them to 3456 rows, and runs the same
   two products over the stack. The definitions below name those stages once, and the lemmas at the end say
   that each of the body's eight stores writes exactly these stages. -/
module

public import proofs.«01_k».proof.Proof.Gen.KernelIdeal.Frame
public import Idealize.ShloMosaic.Lib.Pipeline.ValueKit

@[expose] public section

noncomputable section

namespace Cert.KernelIdeal.Block

open Idealize.ShloMosaic Idealize.SL.Sem Cert.KernelIdeal Cert.KernelIdeal.Gen

variable {F : FTy → Type} [FloatOps F]

/-- The number zero in the sections' format. -/
abbrev zero : F .bf16 := Scalar.ofBits .bf16 0x0000#16

/-- 2048 columns of the image, the leading unit axis dropped. -/
def sq (v : Vec F S1x384x2048 .bf16) : FVec F S384x2048 .bf16 :=
  shapeCast S384x2048 v shapeCasts_S1x384x2048_S384x2048

/-- The section `u` with zeros put wherever the column's place within its image row is `k`. -/
def edge (k : BitVec 32) (u : FVec F S384x2048 .bf16) : FVec F S384x2048 .bf16 :=
  select (broadcastTo S384x2048 (shapeCast S1x2048 (cmpi .eq k0_pay2 (broadcast S1x2048 k)) shapeCasts_S1x2048_S1x2048)
    broadcasts_S1x2048_S384x2048) (broadcast S384x2048 zero) u

/-- The left neighbours of `u`'s elements, zero in front of each image row. -/
def lft (u : FVec F S384x2048 .bf16) : FVec F S384x2048 .bf16 :=
  edge 0#32 (concatenate S384x2048 1 [⟨S384x1, broadcast S384x1 zero⟩,
    ⟨S384x2047, extractStridedSlice S384x2047 ![0, 0] u slices_S384x2048_o0_0_S384x2047⟩]
    concatenates_S384x1_S384x2047_S384x2048_d1)

/-- The right neighbours of `u`'s elements, zero behind each image row. -/
def rgt (u : FVec F S384x2048 .bf16) : FVec F S384x2048 .bf16 :=
  edge 127#32 (concatenate S384x2048 1 [
    ⟨S384x2047, extractStridedSlice S384x2047 ![0, 1] u slices_S384x2048_o0_1_S384x2047⟩,
    ⟨S384x1, broadcast S384x1 zero⟩] concatenates_S384x2047_S384x1_S384x2048_d1)

/-- `u` moved one image row down: the row above, zero for the first. -/
def up (u : FVec F S384x2048 .bf16) : FVec F S384x2048 .bf16 :=
  concatenate S384x2048 1 [⟨S384x128, broadcast S384x128 zero⟩,
    ⟨S384x1920, extractStridedSlice S384x1920 ![0, 0] u slices_S384x2048_o0_0_S384x1920⟩]
    concatenates_S384x128_S384x1920_S384x2048_d1

/-- `u` moved one image row up: the row below, zero for the last. -/
def dn (u : FVec F S384x2048 .bf16) : FVec F S384x2048 .bf16 :=
  concatenate S384x2048 1 [⟨S384x1920, extractStridedSlice S384x1920 ![0, 128] u slices_S384x2048_o0_128_S384x1920⟩,
    ⟨S384x128, broadcast S384x128 zero⟩] concatenates_S384x1920_S384x128_S384x2048_d1

/-- The nine sections stacked. -/
def stack (u : Fin 9 → FVec F S384x2048 .bf16) : FVec F S3456x2048 .bf16 :=
  concatenate S3456x2048 0 [⟨S384x2048, u 0⟩, ⟨S384x2048, u 1⟩, ⟨S384x2048, u 2⟩, ⟨S384x2048, u 3⟩, ⟨S384x2048, u 4⟩,
    ⟨S384x2048, u 5⟩, ⟨S384x2048, u 6⟩, ⟨S384x2048, u 7⟩, ⟨S384x2048, u 8⟩] concatenates_S384x2048_S384x2048_S384x2048_S384x2048_S384x2048_S384x2048_S384x2048_S384x2048_S384x2048_S3456x2048_d0

/-- The hidden layer of one block: the first product, its bias, and the rectifier. -/
def hidden (w1 : Vec F S192x3456 .bf16) (b1 : Vec F S192x1 .f32) (a : FVec F S3456x2048 .bf16) : FVec F S192x2048 .bf16 :=
  truncf .bf16 (maximumf (addf
    (matmul dot_S192x3456_S3456x2048_S192x2048_1_0_0_1_n_n none (shapeCast S192x3456 w1 shapeCasts_S192x3456_S192x3456) a
      (constant S192x2048 .f32 0x00000000#32))
    (broadcastTo S192x2048 (shapeCast S192x1 b1 shapeCasts_S192x1_S192x1) broadcasts_S192x1_S192x2048))
    (broadcast S192x2048 (Scalar.ofBits .f32 0x00000000#32))) bitsLt_bf16_f32

/-- The scores of one block from its stacked sections: the hidden layer, the second product, its bias, and the
    logistic function. -/
def scores (w1 : Vec F S192x3456 .bf16) (b1 : Vec F S192x1 .f32) (w2 : Vec F S1x192 .bf16) (b2 : Vec F S1x1 .f32)
    (a : FVec F S3456x2048 .bf16) : FVec F S1x1x2048 .f32 :=
  shapeCast S1x1x2048 (logistic (addf
    (shapeCast S2048 (matmul dot_S1x192_S192x2048_S1x2048_1_0_0_1_n_n none (shapeCast S1x192 w2 shapeCasts_S1x192_S1x192)
      (hidden w1 b1 a) (constant S1x2048 .f32 0x00000000#32)) shapeCasts_S1x2048_S2048)
    (broadcast S2048 (extractAt ![0, 0] b2 inpos_S1x1_p0_0)))) shapeCasts_S2048_S1x1x2048

/-- A section and its two neighbours, in the order of the taps of one filter row. -/
def three (u : FVec F S384x2048 .bf16) : Fin 3 → FVec F S384x2048 .bf16 := ![lft u, u, rgt u]

/-- The nine sections of a block from its three rows of taps. -/
def nine (t m b : Fin 3 → FVec F S384x2048 .bf16) : Fin 9 → FVec F S384x2048 .bf16 :=
  ![t 0, t 1, t 2, m 0, m 1, m 2, b 0, b 1, b 2]

/-- The scores of the block whose rows of taps are `t`, `m`, `b`, over the windows' contents. -/
abbrev piece (x1 : Vec F S192x3456 .bf16) (x2 : Vec F S192x1 .f32) (x3 : Vec F S1x192 .bf16) (x4 : Vec F S1x1 .f32)
    (t m b : Fin 3 → FVec F S384x2048 .bf16) : FVec F S1x1x2048 .f32 :=
  scores (View.ld x1 r0_5) (View.ld x2 r0_0) (View.ld x3 r0_1) (View.ld x4 r0_2) (stack (nine t m b))

set_option maxHeartbeats 2000000 in
/-- What the body leaves in the output block: eight stores, one per block of 2048 columns. -/
theorem out_eq (x0 : Vec F S1x384x16384 .bf16) (x1 : Vec F S192x3456 .bf16) (x2 : Vec F S192x1 .f32)
    (x3 : Vec F S1x192 .bf16) (x4 : Vec F S1x1 .f32) :
    out0_5 x0 x1 x2 x3 x4 = View.canon [
      ⟨r0_33, piece x1 x2 x3 x4 (three (sq (View.ld x0 r0_31))) (three (sq (View.ld x0 r0_32))) (fun d => dn (three (sq (View.ld x0 r0_32)) d))⟩,
      ⟨r0_30, piece x1 x2 x3 x4 (three (sq (View.ld x0 r0_27))) (three (sq (View.ld x0 r0_28))) (three (sq (View.ld x0 r0_29)))⟩,
      ⟨r0_26, piece x1 x2 x3 x4 (three (sq (View.ld x0 r0_23))) (three (sq (View.ld x0 r0_24))) (three (sq (View.ld x0 r0_25)))⟩,
      ⟨r0_22, piece x1 x2 x3 x4 (three (sq (View.ld x0 r0_19))) (three (sq (View.ld x0 r0_20))) (three (sq (View.ld x0 r0_21)))⟩,
      ⟨r0_18, piece x1 x2 x3 x4 (three (sq (View.ld x0 r0_15))) (three (sq (View.ld x0 r0_16))) (three (sq (View.ld x0 r0_17)))⟩,
      ⟨r0_14, piece x1 x2 x3 x4 (three (sq (View.ld x0 r0_11))) (three (sq (View.ld x0 r0_12))) (three (sq (View.ld x0 r0_13)))⟩,
      ⟨r0_10, piece x1 x2 x3 x4 (three (sq (View.ld x0 r0_7))) (three (sq (View.ld x0 r0_8))) (three (sq (View.ld x0 r0_9)))⟩,
      ⟨r0_6, piece x1 x2 x3 x4 (fun d => up (three (sq (View.ld x0 r0_3)) d)) (three (sq (View.ld x0 r0_3))) (three (sq (View.ld x0 r0_4)))⟩] := by
  unfold_out out0_5
  refine congrArg View.canon ?_
  repeat' first
    | refine congrArg₂ List.cons (congrArg (Sigma.mk _) ?_) ?_
    | exact rfl (a := [])
  all_goals
    dsimp only [piece, scores, hidden, stack, nine, three, sq, lft, rgt, up, dn, edge, Matrix.cons_val]
    open_payloads_core

end Cert.KernelIdeal.Block

end
-- ==== Proof.Sections.lean ====
/- The nine sections of a block, read at an index.

   A column `q` of the flattened image is the pixel in row `q / 128` and place `q % 128`. A section holds, for
   each channel and each of the block's 2048 columns, the pixel some fixed step away from that column's own,
   and zero where that step leaves the image. `pix` is the image with a border of zeros, and `IsSec` says
   that a section holds one of its nine shifted copies. -/
module

public import proofs.«01_k».proof.Proof.Block
public import Idealize.ShloMosaic.Lib.ValueIdx
public import Idealize.ShloMosaic.Lib.Pipeline.Value

@[expose] public section

set_option maxRecDepth 16384

noncomputable section

namespace Cert.KernelIdeal.Block

open Idealize.ShloMosaic hiding ix2 ix3
open Idealize.ShloMosaic.ValueIdx Idealize.SL.Sem Cert.KernelIdeal Cert.KernelIdeal.Gen

/-- One channel's image with a border of zeros around it: row and place run from 0 to 129. -/
def pix (X : Vec Ideal S1x384x16384 .bf16) (c : Fin 384) (y z : ℕ) : EReal :=
  if h : (1 ≤ y ∧ y ≤ 128) ∧ (1 ≤ z ∧ z ≤ 128) then X (ix3 0 c ⟨(y - 1) * 128 + (z - 1), by omega⟩) else 0

/-- Inside the border it is the image. -/
theorem pix_of_inside (X : Vec Ideal S1x384x16384 .bf16) (c : Fin 384) {y z : ℕ} (q : Fin 16384)
    (hy : 1 ≤ y ∧ y ≤ 128) (hz : 1 ≤ z ∧ z ≤ 128) (hq : q.val = (y - 1) * 128 + (z - 1)) : pix X c y z = X (ix3 0 c q) := by
  unfold pix
  rw [dif_pos ⟨hy, hz⟩]
  exact congrArg (fun p => X (ix3 0 c p)) (Fin.ext hq.symm)

/-- On the border it is zero. -/
theorem pix_of_outside (X : Vec Ideal S1x384x16384 .bf16) (c : Fin 384) {y z : ℕ}
    (h : ¬((1 ≤ y ∧ y ≤ 128) ∧ (1 ≤ z ∧ z ≤ 128))) : pix X c y z = 0 := dif_neg h

/-- `u` is the section of the block starting at column `p` for the tap in row `dy` and place `dx` of the filter. -/
def IsSec (X : Vec Ideal S1x384x16384 .bf16) (p dy dx : ℕ) (u : FVec Ideal S384x2048 .bf16) : Prop :=
  ∀ (c : Fin 384) (n : Fin 2048), u (ix2 c n) = pix X c ((p + n.val) / 128 + dy) ((p + n.val) % 128 + dx)

/-- The format's zero word is the number zero. -/
theorem zero_eq : (zero : Ideal .bf16) = 0 := by
  show Ideal.ofBits .bf16 0x0000#16 = 0
  simp [Ideal.ofBits, Ideal.ieee]

/-- The body's table of places: column `n` of a block is at place `n % 128` of its image row. -/
theorem place_eq : ∀ n : Fin 2048, k0_pay2 (ix2 0 n) = BitVec.ofNat 32 (n.val % 128) := by decide +kernel

/-- Zeros put at place `k`, read at an index. -/
theorem edge_apply (k : ℕ) (hk : k < 128) (u : FVec Ideal S384x2048 .bf16) (c : Fin 384) (n : Fin 2048) :
    edge (BitVec.ofNat 32 k) u (ix2 c n) = if n.val % 128 = k then 0 else u (ix2 c n) := by
  unfold edge
  rw [select_apply]
  rw [broadcastTo_apply _ broadcasts_S1x2048_S384x2048 (ix2 c n) (ix2 0 n) (by intro a; fin_cases a <;> rfl)]
  rw [shapeCast_apply _ _ (ix2 0 n) (ix2 0 n) rfl]
  show Scalar.select (IntOp.cmpi .eq (k0_pay2 (ix2 0 n)) (BitVec.ofNat 32 k)) (zero : Ideal .bf16) (u (ix2 c n)) = _
  rw [place_eq, zero_eq]
  have hm : n.val % 128 < 128 := Nat.mod_lt _ (by decide)
  by_cases h : n.val % 128 = k
  · rw [if_pos h, h]; simp [IntOp.cmpi, Scalar.select]
  · rw [if_neg h]
    have hne : BitVec.ofNat 32 (n.val % 128) ≠ BitVec.ofNat 32 k := fun e => h (by
      have := congrArg BitVec.toNat e
      simp only [BitVec.toNat_ofNat] at this
      omega)
    show Scalar.select (BitVec.ofBool (_ == _)) _ _ = _
    rw [beq_false_of_ne hne]
    rfl

/-- The left neighbours, read at an index. -/
theorem lft_apply (u : FVec Ideal S384x2048 .bf16) (c : Fin 384) (n : Fin 2048) :
    lft u (ix2 c n) = if h : n.val % 128 = 0 then 0 else u (ix2 c ⟨n.val - 1, by omega⟩) := by
  unfold lft
  rw [show (0#32 : BitVec 32) = BitVec.ofNat 32 0 from rfl, edge_apply 0 (by decide)]
  by_cases h : n.val % 128 = 0
  · rw [if_pos h, dif_pos h]
  · rw [if_neg h, dif_neg h]
    rw [concatenate_pair_apply_right 1 _ _ concatenates_S384x1_S384x2047_S384x2048_d1 (ix2 c n) rfl rfl
      (ix2 c ⟨n.val - 1, by omega⟩) (by intro b hb; fin_cases b; rfl; exact absurd rfl hb)
      (by show n.val - 1 + 1 = n.val; omega)]
    exact extractStridedSlice_apply _ u _ _ _ (by intro a; fin_cases a <;> simp)

/-- The right neighbours, read at an index. -/
theorem rgt_apply (u : FVec Ideal S384x2048 .bf16) (c : Fin 384) (n : Fin 2048) :
    rgt u (ix2 c n) = if h : n.val % 128 = 127 then 0 else u (ix2 c ⟨n.val + 1, by omega⟩) := by
  unfold rgt
  rw [show (127#32 : BitVec 32) = BitVec.ofNat 32 127 from rfl, edge_apply 127 (by decide)]
  by_cases h : n.val % 128 = 127
  · rw [if_pos h, dif_pos h]
  · rw [if_neg h, dif_neg h]
    rw [concatenate_pair_apply_left 1 _ _ concatenates_S384x2047_S384x1_S384x2048_d1 (ix2 c n) rfl
      (ix2 c ⟨n.val, by omega⟩) (by intro b; fin_cases b <;> rfl)]
    exact extractStridedSlice_apply _ u _ _ _ (by intro a; fin_cases a <;> simp; omega)

/-- The row above, read at an index. -/
theorem up_apply (u : FVec Ideal S384x2048 .bf16) (c : Fin 384) (n : Fin 2048) :
    up u (ix2 c n) = if h : n.val < 128 then 0 else u (ix2 c ⟨n.val - 128, by omega⟩) := by
  unfold up
  by_cases h : n.val < 128
  · rw [dif_pos h, concatenate_pair_apply_left 1 _ _ concatenates_S384x128_S384x1920_S384x2048_d1 (ix2 c n) rfl
      (ix2 c ⟨n.val, h⟩) (by intro b; fin_cases b <;> rfl)]
    exact zero_eq
  · rw [dif_neg h, concatenate_pair_apply_right 1 _ _ concatenates_S384x128_S384x1920_S384x2048_d1 (ix2 c n) rfl rfl
      (ix2 c ⟨n.val - 128, by omega⟩) (by intro b hb; fin_cases b; rfl; exact absurd rfl hb)
      (by show n.val - 128 + 128 = n.val; omega)]
    exact extractStridedSlice_apply _ u _ _ _ (by intro a; fin_cases a <;> simp)

/-- The row below, read at an index. -/
theorem dn_apply (u : FVec Ideal S384x2048 .bf16) (c : Fin 384) (n : Fin 2048) :
    dn u (ix2 c n) = if h : n.val < 1920 then u (ix2 c ⟨n.val + 128, by omega⟩) else 0 := by
  unfold dn
  by_cases h : n.val < 1920
  · rw [dif_pos h, concatenate_pair_apply_left 1 _ _ concatenates_S384x1920_S384x128_S384x2048_d1 (ix2 c n) rfl
      (ix2 c ⟨n.val, h⟩) (by intro b; fin_cases b <;> rfl)]
    exact extractStridedSlice_apply _ u _ _ _ (by intro a; fin_cases a <;> simp; omega)
  · rw [dif_neg h, concatenate_pair_apply_right 1 _ _ concatenates_S384x1920_S384x128_S384x2048_d1 (ix2 c n) rfl rfl
      (ix2 c ⟨n.val - 1920, by omega⟩) (by intro b hb; fin_cases b; rfl; exact absurd rfl hb)
      (by show n.val - 1920 + 1920 = n.val; omega)]
    exact zero_eq

variable {X : Vec Ideal S1x384x16384 .bf16} {p dy dx : ℕ} {u : FVec Ideal S384x2048 .bf16}

/-- 2048 columns loaded at `off` are the middle section of filter row `dy`. -/
theorem isSec_load (off : ℕ) (inb) (hoff : off + 128 = p + 128 * dy) (hp : p % 128 = 0) :
    IsSec X p dy 1 (sq (View.ld X (Rect.unit (s := S1x384x16384) ![0, 0, off] S1x384x2048.size inb))) := by
  intro c n
  have hin : off + 2048 ≤ 16384 := inb 2
  have hn := n.isLt
  unfold sq
  rw [shapeCast_apply _ _ (ix2 c n) (ix3 0 c n) (by
    simp [Shape.rowMajor_val_two, Shape.rowMajor_val_three])]
  rw [pix_of_inside X c ⟨off + n.val, by omega⟩ (by omega) (by omega) (by dsimp only; omega)]
  exact congrArg X (funext fun a => Fin.ext (by
    rw [Rect.idx_unit_val]
    fin_cases a <;> simp))

/-- A middle section's left neighbours are the left section. -/
theorem IsSec.lft (hp : p % 128 = 0) (h : IsSec X p dy 1 u) : IsSec X p dy 0 (lft u) := by
  intro c n
  rw [lft_apply]
  by_cases hn : n.val % 128 = 0
  · rw [dif_pos hn, pix_of_outside X c (by omega)]
  · rw [dif_neg hn, h]; refine congrArg₂ (pix X c) ?_ ?_ <;> dsimp only <;> omega

/-- A middle section's right neighbours are the right section. -/
theorem IsSec.rgt (hp : p % 128 = 0) (h : IsSec X p dy 1 u) : IsSec X p dy 2 (rgt u) := by
  intro c n
  rw [rgt_apply]
  by_cases hn : n.val % 128 = 127
  · rw [dif_pos hn, pix_of_outside X c (by omega)]
  · rw [dif_neg hn, h]; refine congrArg₂ (pix X c) ?_ ?_ <;> dsimp only <;> omega

/-- In the first block the middle row's sections, moved one image row down, are the top row's. -/
theorem IsSec.up (h : IsSec X 0 1 dx u) : IsSec X 0 0 dx (up u) := by
  intro c n
  rw [up_apply]
  by_cases hn : n.val < 128
  · rw [dif_pos hn, pix_of_outside X c (by omega)]
  · rw [dif_neg hn, h]; refine congrArg₂ (pix X c) ?_ ?_ <;> dsimp only <;> omega

/-- In the last block the middle row's sections, moved one image row up, are the bottom row's. -/
theorem IsSec.dn (h : IsSec X 14336 1 dx u) : IsSec X 14336 2 dx (dn u) := by
  intro c n
  rw [dn_apply]
  by_cases hn : n.val < 1920
  · rw [dif_pos hn, h]; refine congrArg₂ (pix X c) ?_ ?_ <;> dsimp only <;> omega
  · have := n.isLt; rw [dif_neg hn, pix_of_outside X c (by omega)]

/-- The three sections of one filter row. -/
theorem IsSec.three (hp : p % 128 = 0) (h : IsSec X p dy 1 u) (d : Fin 3) : IsSec X p dy d.val (three u d) := by
  fin_cases d
  exacts [h.lft hp, h, h.rgt hp]

/-- The three rows of sections are the nine sections. -/
theorem isSec_nine {t m b : Fin 3 → FVec Ideal S384x2048 .bf16} (ht : ∀ d, IsSec X p 0 d.val (t d))
    (hm : ∀ d, IsSec X p 1 d.val (m d)) (hb : ∀ d, IsSec X p 2 d.val (b d)) (k : Fin 9) :
    IsSec X p (k.val / 3) (k.val % 3) (nine t m b k) := by
  fin_cases k
  exacts [ht 0, ht 1, ht 2, hm 0, hm 1, hm 2, hb 0, hb 1, hb 2]

/-- The stack of the nine sections, read at an index: row `k` is channel `k % 384` of section `k / 384`. -/
theorem stack_apply {w : Fin 9 → FVec Ideal S384x2048 .bf16} (hw : ∀ k, IsSec X p (k.val / 3) (k.val % 3) (w k))
    (k : Fin 3456) (n : Fin 2048) :
    stack w (ix2 k n) = pix X ⟨k.val % 384, Nat.mod_lt _ (by decide)⟩ ((p + n.val) / 128 + k.val / 384 / 3)
      ((p + n.val) % 128 + k.val / 384 % 3) := by
  have hk := k.isLt
  refine Eq.trans ?_ (hw ⟨k.val / 384, by omega⟩ ⟨k.val % 384, Nat.mod_lt _ (by decide)⟩ n)
  exact concatenate_ofFn_apply (s₁ := S384x2048) 0 w
    concatenates_S384x2048_S384x2048_S384x2048_S384x2048_S384x2048_S384x2048_S384x2048_S384x2048_S384x2048_S3456x2048_d0
    rfl 384 rfl (ix2 k n) ⟨k.val / 384, by omega⟩ rfl (ix2 ⟨k.val % 384, Nat.mod_lt _ (by decide)⟩ n) rfl
    (by intro b hb; fin_cases b; exact absurd rfl hb; rfl)

end Cert.KernelIdeal.Block

end
-- ==== Proof.Scores.lean ====
/- The scores of one image, read at an index.

   `score` is the network's answer at one pixel, in the kernel's own layout: the hidden layer sums over 3456
   pairs of a tap and a channel, tap by tap. `out_apply` says that the body leaves exactly this in its output
   block, at each of the 16384 pixels. -/
module

public import proofs.«01_k».proof.Proof.Sections

@[expose] public section

set_option maxRecDepth 16384

noncomputable section

namespace Cert.KernelIdeal.Block

open Idealize.ShloMosaic hiding ix1 ix2 ix3
open Idealize.ShloMosaic.ValueIdx Idealize.SL.Sem Cert.KernelIdeal Cert.KernelIdeal.Gen
open scoped BigOperators

/-- The answer of the network from the hidden layer's sums `h`, one for each of the 192 hidden channels. -/
def answer (b1 : Vec Ideal S192x1 .f32) (w2 : Vec Ideal S1x192 .bf16) (b2 : Vec Ideal S1x1 .f32) (h : Fin 192 → EReal) : EReal :=
  Ideal.logistic ((∑ o : Fin 192, w2 (ix2 0 o) * max (h o + b1 (ix2 o 0)) 0) + b2 (ix2 0 0))

/-- The answer at pixel `q` of the image `X`. -/
def score (X : Vec Ideal S1x384x16384 .bf16) (w1 : Vec Ideal S192x3456 .bf16) (b1 : Vec Ideal S192x1 .f32)
    (w2 : Vec Ideal S1x192 .bf16) (b2 : Vec Ideal S1x1 .f32) (q : ℕ) : EReal :=
  answer b1 w2 b2 fun o => ∑ k : Fin 3456, w1 (ix2 o k) *
    pix X ⟨k.val % 384, Nat.mod_lt _ (by decide)⟩ (q / 128 + k.val / 384 / 3) (q % 128 + k.val / 384 % 3)

/-- The first product, read at an index. -/
theorem hidden_dot (w : FVec Ideal S192x3456 .bf16) (a : FVec Ideal S3456x2048 .bf16) (o : Fin 192) (n : Fin 2048) :
    matmul dot_S192x3456_S3456x2048_S192x2048_1_0_0_1_n_n none w a (constant S192x2048 .f32 0x00000000#32) (ix2 o n)
      = ∑ k : Fin 3456, w (ix2 o k) * a (ix2 k n) := by
  simp only [matmul]
  rw [Ideal.matmul_constant_zero_apply,
    ← Equiv.sum_comp (contrEquiv1 dot_S192x3456_S3456x2048_S192x2048_1_0_0_1_n_n 3456 rfl rfl).symm]
  refine Finset.sum_congr rfl fun k _ => ?_
  refine congrArg₂ (fun i j => w i * a j) (funext fun d => Fin.ext ?_) (funext fun d => Fin.ext ?_)
  · fin_cases d <;> rfl
  · fin_cases d <;> rfl

/-- The second product, read at an index. -/
theorem score_dot (w : FVec Ideal S1x192 .bf16) (a : FVec Ideal S192x2048 .bf16) (n : Fin 2048) :
    matmul dot_S1x192_S192x2048_S1x2048_1_0_0_1_n_n none w a (constant S1x2048 .f32 0x00000000#32) (ix2 0 n)
      = ∑ o : Fin 192, w (ix2 0 o) * a (ix2 o n) := by
  simp only [matmul]
  rw [Ideal.matmul_constant_zero_apply,
    ← Equiv.sum_comp (contrEquiv1 dot_S1x192_S192x2048_S1x2048_1_0_0_1_n_n 192 rfl rfl).symm]
  refine Finset.sum_congr rfl fun k _ => ?_
  refine congrArg₂ (fun i j => w i * a j) (funext fun d => Fin.ext ?_) (funext fun d => Fin.ext ?_)
  · fin_cases d <;> rfl
  · fin_cases d <;> rfl

/-- The hidden layer, read at an index. -/
theorem hidden_apply (w1 : Vec Ideal S192x3456 .bf16) (b1 : Vec Ideal S192x1 .f32) (a : FVec Ideal S3456x2048 .bf16)
    (o : Fin 192) (n : Fin 2048) :
    hidden w1 b1 a (ix2 o n) = max ((∑ k : Fin 3456, w1 (ix2 o k) * a (ix2 k n)) + b1 (ix2 o 0)) 0 := by
  unfold hidden
  rw [truncf_apply, maximumf_apply, addf_apply, hidden_dot, broadcast_apply,
    broadcastTo_apply _ broadcasts_S192x1_S192x2048 (ix2 o n) (ix2 o 0) (by intro a; fin_cases a <;> rfl),
    shapeCast_apply _ _ (ix2 o 0) (ix2 o 0) rfl]
  refine congrArg₂ max (congrArg (· + _) (Finset.sum_congr rfl fun k _ => ?_)) Ideal.ofBits_zero_f32
  rw [shapeCast_apply _ _ (ix2 o k) (ix2 o k) rfl]

/-- A block's scores, read at an index. -/
theorem scores_apply (w1 : Vec Ideal S192x3456 .bf16) (b1 : Vec Ideal S192x1 .f32) (w2 : Vec Ideal S1x192 .bf16)
    (b2 : Vec Ideal S1x1 .f32) (a : FVec Ideal S3456x2048 .bf16) (n : Fin 2048) :
    scores w1 b1 w2 b2 a (ix3 0 0 n) = answer b1 w2 b2 fun o => ∑ k : Fin 3456, w1 (ix2 o k) * a (ix2 k n) := by
  unfold scores answer
  rw [shapeCast_apply _ _ (ix3 0 0 n) (ix1 n) (by simp [Shape.rowMajor_val_one, Shape.rowMajor_val_three])]
  refine congrArg Ideal.logistic (congrArg₂ (· + ·) ?_ ?_)
  · rw [shapeCast_apply _ _ (ix1 n) (ix2 0 n) (by simp [Shape.rowMajor_val_one, Shape.rowMajor_val_two]), score_dot]
    refine Finset.sum_congr rfl fun o _ => ?_
    rw [hidden_apply, shapeCast_apply _ _ (ix2 0 o) (ix2 0 o) rfl]
  · exact congrArg b2 (funext fun d => Fin.ext (by fin_cases d <;> rfl))

/-- What a store of the block at column `p` writes, once its nine sections are known. -/
theorem piece_apply {X : Vec Ideal S1x384x16384 .bf16} {p : ℕ} {t m b : Fin 3 → FVec Ideal S384x2048 .bf16}
    (x1 : Vec Ideal S192x3456 .bf16) (x2 : Vec Ideal S192x1 .f32) (x3 : Vec Ideal S1x192 .bf16) (x4 : Vec Ideal S1x1 .f32)
    (ht : ∀ d, IsSec X p 0 d.val (t d)) (hm : ∀ d, IsSec X p 1 d.val (m d)) (hb : ∀ d, IsSec X p 2 d.val (b d))
    (n : Fin 2048) : piece x1 x2 x3 x4 t m b (ix3 0 0 n) = score X x1 x2 x3 x4 (p + n.val) := by
  unfold piece
  rw [View.ld_unit_lit _ x1 (by decide), View.ld_unit_lit _ x2 (by decide), View.ld_unit_lit _ x3 (by decide),
    View.ld_unit_lit _ x4 (by decide), scores_apply]
  unfold score
  simp only [stack_apply (isSec_nine ht hm hb)]

/-- The same at the store's own rectangle: what it writes is the score of the pixel it writes it to. -/
theorem piece_emb {X : Vec Ideal S1x384x16384 .bf16} {p : ℕ} {t m b : Fin 3 → FVec Ideal S384x2048 .bf16}
    (x1 : Vec Ideal S192x3456 .bf16) (x2 : Vec Ideal S192x1 .f32) (x3 : Vec Ideal S1x192 .bf16) (x4 : Vec Ideal S1x1 .f32)
    (inb) (ht : ∀ d, IsSec X p 0 d.val (t d)) (hm : ∀ d, IsSec X p 1 d.val (m d)) (hb : ∀ d, IsSec X p 2 d.val (b d))
    (y : S1x1x2048.Idx) : piece x1 x2 x3 x4 t m b y
      = score X x1 x2 x3 x4 (((Rect.unit (s := S1x1x16384) ![0, 0, p] S1x1x2048.size inb).emb y) 2).val := by
  obtain ⟨n, rfl⟩ : ∃ n : Fin 2048, y = ix3 0 0 n :=
    ⟨y 2, funext fun d => by fin_cases d <;> first | rfl | exact Subsingleton.elim (α := Fin 1) _ _⟩
  rw [piece_apply x1 x2 x3 x4 ht hm hb]
  exact congrArg _ (Rect.idx_unit_val _ _ inb (ix3 0 0 n) 2).symm

/-- The body's output block holds the scores of its image. -/
theorem out_apply (x0 : Vec Ideal S1x384x16384 .bf16) (x1 : Vec Ideal S192x3456 .bf16) (x2 : Vec Ideal S192x1 .f32)
    (x3 : Vec Ideal S1x192 .bf16) (x4 : Vec Ideal S1x1 .f32) (y : S1x1x16384.Idx) :
    out0_5 x0 x1 x2 x3 x4 y = score x0 x1 x2 x3 x4 (y 2).val := by
  rw [out_eq]
  refine View.canon_apply_of_pieces (Val := Elt Ideal) (e := .f32) (S := S1x1x16384)
    (fun y => score x0 x1 x2 x3 x4 (y 2).val) _ ?_ y (cover0_5 _ _ _ _ _ _ _ _ y)
  simp only [List.forall_mem_cons]
  refine ⟨?_, ?_, ?_, ?_, ?_, ?_, ?_, ?_, by simp⟩
  · exact piece_emb x1 x2 x3 x4 _ (IsSec.three (by decide) (isSec_load _ _ rfl rfl))
      (IsSec.three (by decide) (isSec_load _ _ rfl rfl))
      (fun d => (IsSec.three (by decide) (isSec_load _ _ rfl rfl) d).dn)
  iterate 6
    exact piece_emb x1 x2 x3 x4 _ (IsSec.three (by decide) (isSec_load _ _ rfl rfl))
      (IsSec.three (by decide) (isSec_load _ _ rfl rfl)) (IsSec.three (by decide) (isSec_load _ _ rfl rfl))
  · exact piece_emb x1 x2 x3 x4 _ (fun d => (IsSec.three (by decide) (isSec_load _ _ rfl rfl) d).up)
      (IsSec.three (by decide) (isSec_load _ _ rfl rfl)) (IsSec.three (by decide) (isSec_load _ _ rfl rfl))

end Cert.KernelIdeal.Block

end
-- ==== Proof.Spec.lean ====
/- The network's score, written once for both programs.

   A 3 x 3 convolution from 384 to 192 channels with a border of zeros, its bias, the rectifier, a 1 x 1
   convolution to one channel, its bias, and the logistic function. The indices are plain coordinates, so
   that neither program's layout is in the statement. -/
module

public import Idealize.ShloMosaic.PureOps.Ideal
public import Idealize.ShloMosaic.Lib.ValueIdx

@[expose] public section

noncomputable section

namespace Cert.Spec

open Idealize.ShloMosaic
open Idealize.ShloMosaic.ValueIdx
open scoped BigOperators

/-- The images' shape: image, channel, row, place. -/
abbrev Img : Shape := ⟨4, ![4, 384, 128, 128]⟩
/-- The first convolution's weights: to channel, from channel, filter row, filter place. -/
abbrev Wts : Shape := ⟨4, ![192, 384, 3, 3]⟩
/-- The second convolution's weights. -/
abbrev Row : Shape := ⟨4, ![1, 192, 1, 1]⟩
/-- A bias for each of the 192 channels. -/
abbrev Bias : Shape := ⟨1, ![192]⟩
/-- A single bias. -/
abbrev One : Shape := ⟨1, ![1]⟩

/-- Channel `c` of image `b` with a border of zeros around it: `y` and `z` run from 0 to 129. -/
def border (x : Img.Idx → EReal) (b : Fin 4) (c : Fin 384) (y z : ℕ) : EReal :=
  if h : (1 ≤ y ∧ y ≤ 128) ∧ (1 ≤ z ∧ z ≤ 128) then x (ix4 b c ⟨y - 1, by omega⟩ ⟨z - 1, by omega⟩) else 0

/-- The first convolution at pixel `q` (row `q / 128`, place `q % 128`), to channel `o`: the nine taps, each summed
    over the 384 channels. -/
def conv (x : Img.Idx → EReal) (w1 : Wts.Idx → EReal) (b : Fin 4) (q : ℕ) (o : Fin 192) : EReal :=
  ∑ t : Fin 9, ∑ c : Fin 384, w1 (ix4 o c ⟨t.val / 3, by omega⟩ ⟨t.val % 3, by omega⟩) *
    border x b c (q / 128 + t.val / 3) (q % 128 + t.val % 3)

/-- The score at pixel `q` of image `b`. -/
def score (x : Img.Idx → EReal) (w1 : Wts.Idx → EReal) (b1 : Bias.Idx → EReal) (w2 : Row.Idx → EReal)
    (b2 : One.Idx → EReal) (b : Fin 4) (q : ℕ) : EReal :=
  Ideal.logistic ((∑ o : Fin 192, w2 (ix4 0 o 0 0) * max (conv x w1 b q o + b1 (ix1 o)) 0) + b2 (ix1 0))

/-- A sum over 3456 is the sum over nine sections of 384. -/
theorem sum_sections (f : ℕ → ℕ → EReal) :
    (∑ k : Fin 3456, f (k.val / 384) (k.val % 384)) = ∑ t : Fin 9, ∑ c : Fin 384, f t.val c.val := by
  rw [← Finset.sum_product', Finset.univ_product_univ]
  refine Fintype.sum_equiv (finProdFinEquiv (m := 9) (n := 384)).symm _ _ fun k => ?_
  rfl

/-- A sum of nine, added one after the other to zero. -/
theorem sum_nine (f : Fin 9 → EReal) :
    0 + f 0 + f 1 + f 2 + f 3 + f 4 + f 5 + f 6 + f 7 + f 8 = ∑ t : Fin 9, f t := by
  simp only [Fin.sum_univ_castSucc, Fin.sum_univ_zero]
  rfl

end Cert.Spec

end
-- ==== Proof.Array.lean ====
/- What the kernel's array of scores holds after its four steps: the network's score at every pixel of every
   image. Each step reads one image and the weights in the kernel's own layout; the lemmas below read those
   blocks back to the arguments. -/
module

public import proofs.«01_k».proof.Proof.Scores
public import proofs.«01_k».proof.Proof.Spec
public import Idealize.ShloMosaic.Lib.Pipeline.ValueKit
public import Idealize.ShloMosaic.Lib.StableHlo.RunRead

@[expose] public section

set_option maxRecDepth 16384

noncomputable section

namespace Cert.KernelIdeal.Block

open Idealize.ShloMosaic hiding ix1 ix2 ix3 ix4
open Idealize.ShloMosaic.ValueIdx Idealize.ShloMosaic.TcCoe Idealize.SL.Sem Cert.KernelIdeal Cert.KernelIdeal.Gen
open scoped BigOperators

/-- The kernel's score of a block is the network's score, once the block and the weights are the arguments' in the
    kernel's layout. -/
theorem score_eq {X : Vec Ideal S1x384x16384 .bf16} {w1 : Vec Ideal S192x3456 .bf16} {b1 : Vec Ideal S192x1 .f32}
    {w2 : Vec Ideal S1x192 .bf16} {b2 : Vec Ideal S1x1 .f32} {x : Spec.Img.Idx → EReal} {W1 : Spec.Wts.Idx → EReal}
    {B1 : Spec.Bias.Idx → EReal} {W2 : Spec.Row.Idx → EReal} {B2 : Spec.One.Idx → EReal} (b : Fin 4)
    (hX : ∀ (c : Fin 384) (y z : Fin 128) (q : Fin 16384), q.val = y.val * 128 + z.val → X (ix3 0 c q) = x (ix4 b c y z))
    (hw1 : ∀ (o : Fin 192) (k : Fin 3456) (c : Fin 384) (d e : Fin 3), k.val = (d.val * 3 + e.val) * 384 + c.val →
      w1 (ix2 o k) = W1 (ix4 o c d e))
    (hb1 : ∀ o : Fin 192, b1 (ix2 o 0) = B1 (ix1 o)) (hw2 : ∀ o : Fin 192, w2 (ix2 0 o) = W2 (ix4 0 o 0 0))
    (hb2 : b2 (ix2 0 0) = B2 (ix1 0)) (q : ℕ) :
    score X w1 b1 w2 b2 q = Spec.score x W1 B1 W2 B2 b q := by
  have hpix : ∀ c y z, pix X c y z = Spec.border x b c y z := fun c y z => by
    unfold pix Spec.border
    split
    · exact hX c _ _ _ rfl
    · rfl
  unfold score answer Spec.score
  simp only [hb1, hw2, hb2]
  refine congrArg (fun h : Fin 192 → EReal => Ideal.logistic ((∑ o : Fin 192, W2 (ix4 0 o 0 0) * max (h o + B1 (ix1 o)) 0) + B2 (ix1 0)))
    (funext fun o => ?_)
  unfold Spec.conv
  refine Eq.trans (Finset.sum_congr rfl fun k _ => ?_) ((Spec.sum_sections fun t c => if h : t < 9 ∧ c < 384 then
    W1 (ix4 o ⟨c, h.2⟩ ⟨t / 3, by omega⟩ ⟨t % 3, by omega⟩) * Spec.border x b ⟨c, h.2⟩ (q / 128 + t / 3) (q % 128 + t % 3)
    else 0).trans (Finset.sum_congr rfl fun t _ => Finset.sum_congr rfl fun c _ => dif_pos ⟨t.isLt, c.isLt⟩))
  have hk := k.isLt
  rw [dif_pos ⟨by omega, Nat.mod_lt _ (by decide)⟩, hpix,
    hw1 o k ⟨k.val % 384, by omega⟩ ⟨k.val / 384 / 3, by omega⟩ ⟨k.val / 384 % 3, by omega⟩ (by dsimp only; omega)]

variable (m : (ℓ : Loc nD τ sig) → Buf (Elt Ideal) ℓ)

/-- The images as the kernel's steps read them: the row and the place in one axis. -/
theorem entry_x (c : Dev nD) (b : Fin 4) (ch : Fin 384) (y z : Fin 128) (q : Fin 16384) (hq : q.val = y.val * 128 + z.val) :
    V m c main_v1 (ix3 b ch q) = m ((c : Thread nD τ).loc main_arg0) (ix4 b ch y z) := by
  unfold V V0 hostOps0
  simp only [List.flatten_cons, List.flatten_nil, List.append_nil]
  after_reads_simp
  rw [truncf_apply]
  refine shapeCast_apply (t := S4x384x16384) _ _ _ (ix4 b ch y z) ?_
  rw [Shape.rowMajor_val_four, Shape.rowMajor_val_three]
  show ((b.val * 384 + ch.val) * 128 + y.val) * 128 + z.val = (b.val * 384 + ch.val) * 16384 + q.val
  omega

/-- The first weights: one row of 3456 for each channel, tap by tap. -/
theorem entry_w1 (c : Dev nD) (o : Fin 192) (k : Fin 3456) (ch : Fin 384) (d e : Fin 3)
    (hk : k.val = (d.val * 3 + e.val) * 384 + ch.val) :
    V m c main_v4 (ix2 o k) = m ((c : Thread nD τ).loc main_arg1) (ix4 o ch d e) := by
  unfold V V0 hostOps0
  simp only [List.flatten_cons, List.flatten_nil, List.append_nil]
  after_reads_simp
  rw [truncf_apply]
  refine (shapeCast_apply (t := S192x3456) _ _ _ (ix4 o d e ch) ?_).trans (transpose_apply _ _ _ _ (ix4 o ch d e) ?_)
  · rw [Shape.rowMajor_val_four, Shape.rowMajor_val_two]
    show ((o.val * 3 + d.val) * 3 + e.val) * 384 + ch.val = o.val * 3456 + k.val
    omega
  · intro b; fin_cases b <;> rfl

/-- The first bias, as a column. -/
theorem entry_b1 (c : Dev nD) (o : Fin 192) : V m c main_v7 (ix2 o 0) = m ((c : Thread nD τ).loc main_arg2) (ix1 o) := by
  unfold V V0 hostOps0
  simp only [List.flatten_cons, List.flatten_nil, List.append_nil]
  after_reads_simp
  refine shapeCast_apply (t := S192x1) _ _ _ (ix1 o) ?_
  rw [Shape.rowMajor_val_one, Shape.rowMajor_val_two]
  show o.val = o.val * 1 + 0
  omega

/-- The second weights, as a row. -/
theorem entry_w2 (c : Dev nD) (o : Fin 192) : V m c main_v6 (ix2 0 o) = m ((c : Thread nD τ).loc main_arg3) (ix4 0 o 0 0) := by
  unfold V V0 hostOps0
  simp only [List.flatten_cons, List.flatten_nil, List.append_nil]
  after_reads_simp
  rw [truncf_apply]
  refine shapeCast_apply (t := S1x192) _ _ _ (ix4 0 o 0 0) ?_
  rw [Shape.rowMajor_val_four, Shape.rowMajor_val_two]
  show ((0 * 192 + o.val) * 1 + 0) * 1 + 0 = 0 * 192 + o.val
  omega

/-- The second bias. -/
theorem entry_b2 (c : Dev nD) : V m c main_v8 (ix2 0 0) = m ((c : Thread nD τ).loc main_arg4) (ix1 0) := by
  unfold V V0 hostOps0
  simp only [List.flatten_cons, List.flatten_nil, List.append_nil]
  after_reads_simp
  exact shapeCast_apply (t := S1x1) _ _ _ (ix1 0) rfl

/-- Step `t` reads image `t` … -/
theorem index_x : ∀ t : Fin cfg0.grid.N, win0_0.index t = ![t.val, 0, 0] := by decide +kernel
/-- … the first weights whole … -/
theorem index_w1 : ∀ t : Fin cfg0.grid.N, win0_1.index t = ![0, 0] := by decide +kernel
/-- … the first bias whole … -/
theorem index_b1 : ∀ t : Fin cfg0.grid.N, win0_2.index t = ![0, 0] := by decide +kernel
/-- … the second weights whole … -/
theorem index_w2 : ∀ t : Fin cfg0.grid.N, win0_3.index t = ![0, 0] := by decide +kernel
/-- … the second bias whole … -/
theorem index_b2 : ∀ t : Fin cfg0.grid.N, win0_4.index t = ![0, 0] := by decide +kernel
/-- … and writes the scores of image `t`. -/
theorem index_out : ∀ t : Fin cfg0.grid.N, win0_5.index t = ![t.val, 0, 0] := by decide +kernel

/-- The block of images that step `t` reads. -/
theorem block_x (c : Dev nD) (t : Fin cfg0.grid.N) (ch : Fin 384) (q : Fin 16384) :
    iblk m c 0 t (ix3 0 ch q) = V m c main_v1 (ix3 (t : Fin 4) ch q) := by
  unfold iblk
  blk_simp [index_x]
  refine congrArg (V m c main_v1) (funext fun d => Fin.ext ?_)
  fin_cases d <;> blk_simp [index_x]

/-- The first weights as step `t` reads them. -/
theorem block_w1 (c : Dev nD) (t : Fin cfg0.grid.N) (o : Fin 192) (k : Fin 3456) :
    iblk m c 1 t (ix2 o k) = V m c main_v4 (ix2 o k) := by
  unfold iblk
  blk_simp [index_w1]
  refine congrArg (V m c main_v4) (funext fun d => Fin.ext ?_)
  fin_cases d <;> blk_simp [index_w1]

/-- The first bias as step `t` reads it. -/
theorem block_b1 (c : Dev nD) (t : Fin cfg0.grid.N) (o : Fin 192) : iblk m c 2 t (ix2 o 0) = V m c main_v7 (ix2 o 0) := by
  unfold iblk
  blk_simp [index_b1]
  refine congrArg (V m c main_v7) (funext fun d => Fin.ext ?_)
  fin_cases d <;> blk_simp [index_b1]

/-- The second weights as step `t` reads them. -/
theorem block_w2 (c : Dev nD) (t : Fin cfg0.grid.N) (o : Fin 192) : iblk m c 3 t (ix2 0 o) = V m c main_v6 (ix2 0 o) := by
  unfold iblk
  blk_simp [index_w2]
  refine congrArg (V m c main_v6) (funext fun d => Fin.ext ?_)
  fin_cases d <;> blk_simp [index_w2]

/-- The second bias as step `t` reads it. -/
theorem block_b2 (c : Dev nD) (t : Fin cfg0.grid.N) : iblk m c 4 t (ix2 0 0) = V m c main_v8 (ix2 0 0) := by
  unfold iblk
  blk_simp [index_b2]
  refine congrArg (V m c main_v8) (funext fun d => Fin.ext ?_)
  fin_cases d <;> blk_simp [index_b2]

/-- The scores' array after the last step. -/
theorem arr_eq (c : Dev nD) :
    (dats m 0 c).arrAt 5 (cfgs 0).N = fun i : S4x1x16384.Idx => Spec.score (m ((c : Thread nD τ).loc main_arg0))
      (m ((c : Thread nD τ).loc main_arg1)) (m ((c : Thread nD τ).loc main_arg2)) (m ((c : Thread nD τ).loc main_arg3))
      (m ((c : Thread nD τ).loc main_arg4)) (i 0) (i 2).val := by
  refine (dats m 0 c).arrAt_eq_of_covers 5 _ (by decide +kernel) fun t hf y => ?_
  rw [after0_5]
  blk_simp [index_out]
  rw [out_apply]
  have hb : ((win0_5.blk t).view.emb y 0 : Fin 4) = (t : Fin 4) := Fin.ext (by blk_simp [index_out]; skip)
  rw [hb]
  refine score_eq (t : Fin 4) ?_ ?_ ?_ ?_ ?_ _
  · exact fun ch y z q hq => (block_x m c t ch q).trans (entry_x m c _ ch y z q hq)
  · exact fun o k ch d e hk => (block_w1 m c t o k).trans (entry_w1 m c o k ch d e hk)
  · exact fun o => (block_b1 m c t o).trans (entry_b1 m c o)
  · exact fun o => (block_w2 m c t o).trans (entry_w2 m c o)
  · exact (block_b2 m c t).trans (entry_b2 m c)

end Cert.KernelIdeal.Block

end
-- ==== Proof.Tail.lean ====
/- What is made of the scores: the thousand best of each image, their places, and their coordinates.

   Both programs end with the same steps on the host. They are written here once, as functions of the scores
   and of the places, and `read_values`, `read_indices`, `read_coords` say that the kernel's last operations
   compute them. -/
module

public import proofs.«01_k».proof.Proof.Gen.KernelIdeal.Launch
public import Idealize.ShloMosaic.Lib.StableHlo.RunRead
public import Idealize.ShloMosaic.PureOps.Ideal

@[expose] public section

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen

/-- The thousand best scores of each image. -/
def best (s : Vec Ideal S4x16384 .f32) : Vec Ideal S4x1000 .f32 :=
  (Host.topK S4x1000 1 (FloatOps.cmpfTotal (F := Ideal) (φ := .f32) .gt) s sliceFits_S4x16384_S4x1000).1

/-- The places of the thousand best scores. -/
def places (s : Vec Ideal S4x16384 .f32) : Vec Ideal S4x1000 .i32 :=
  (Host.topK S4x1000 1 (FloatOps.cmpfTotal (F := Ideal) (φ := .f32) .gt) s sliceFits_S4x16384_S4x1000).2

/-- One number at each of the places. -/
def all {e : EltTy} (x : Vec Ideal S_ e) : Vec Ideal S4x1000 e := broadcastInDim S4x1000 ![] bcast_S_S4x1000 x

/-- The quotient by `d`, rounded down: one less than the truncated quotient where the signs differ and `d` does not
    divide. -/
def quotient (p : Vec Ideal S4x1000 .i32) (d : Vec Ideal S_ .i32) : Vec Ideal S4x1000 .i32 :=
  select
    (andi (cmpi .ne (signi p) (all (e := .i32) (signi d))) (cmpi .ne (Host.remsi p (all (e := .i32) d)) (all (e := .i32) (constantI S_ 32 0#32))))
    (subi (Host.divsi p (all (e := .i32) d)) (all (e := .i32) (constantI S_ 32 1#32)))
    (Host.divsi p (all (e := .i32) d))

/-- A divisor, or one in place of zero. -/
def nonzero (d : Vec Ideal S_ .i32) : Vec Ideal S_ .i32 :=
  select (cmpi .eq d (constantI S_ 32 0#32)) (constantI S_ 32 1#32) d

/-- The remainder of the quotient rounded down: `d` more than the truncated remainder where that is not zero and has
    the other sign. -/
def remainder (p : Vec Ideal S4x1000 .i32) (d : Vec Ideal S_ .i32) : Vec Ideal S4x1000 .i32 :=
  select
    (andi
      (cmpi .ne (cmpi .slt (Host.remsi p (all (e := .i32) (nonzero d))) (all (e := .i32) (constantI S_ 32 0#32)))
        (all (e := .i1) (cmpi .slt (nonzero d) (constantI S_ 32 0#32))))
      (cmpi .ne (Host.remsi p (all (e := .i32) (nonzero d))) (all (e := .i32) (constantI S_ 32 0#32))))
    (addi (Host.remsi p (all (e := .i32) (nonzero d))) (all (e := .i32) (nonzero d)))
    (Host.remsi p (all (e := .i32) (nonzero d)))

/-- A row or column number as a part of 128, with an axis of one entry behind it. -/
def fraction (p : Vec Ideal S4x1000 .i32) : Vec Ideal S4x1000x1 .f32 :=
  broadcastInDim S4x1000x1 ![0, 1] bcast_S4x1000_S4x1000x1_0_1
    (Host.divf (F := Ideal) (φ := .f32) (sitofp .f32 p) (all (e := .f32) (constant (F := Ideal) S_ .f32 0x43000000#32)))

/-- The coordinates of the places: the column's part, then the row's. -/
def coords (p : Vec Ideal S4x1000 .i32) : Vec Ideal S4x1000x2 .f32 :=
  concatenate S4x1000x2 2 [⟨S4x1000x1, fraction (remainder p (constantI S_ 32 128#32))⟩,
    ⟨S4x1000x1, fraction (quotient p (constantI S_ 32 128#32))⟩] concatenates_S4x1000x1_S4x1000x1_S4x1000x2_d2

/-- The kernel's operations behind the launch. -/
abbrev last : List (HloOp τ sig (Elt Ideal)) :=
  List.flatten [hostOps1, hostOps1_1, hostOps1_2, hostOps1_3, hostOps1_4]

/-- The kernel's scores, without the axis of one entry. -/
def flat (s : Vec Ideal S4x1x16384 .f32) : Vec Ideal S4x16384 .f32 :=
  shapeCast S4x16384 s shapeCasts_S4x1x16384_S4x16384

variable (V : Valuation τ sig (Elt Ideal))

/-- The first result. -/
theorem read_values : after last V (Proc.devRef .tc main_values) = best (flat (V (Proc.devRef .tc main_v9))) := by
  after_reads_simp
  rfl

/-- The second result. -/
theorem read_indices : after last V (Proc.devRef .tc main_indices) = places (flat (V (Proc.devRef .tc main_v9))) := by
  after_reads_simp
  rfl

/-- The third result. -/
theorem read_coords : after last V (Proc.devRef .tc main_v21)
    = coords (places (flat (V (Proc.devRef .tc main_v9)))) := by
  after_reads_simp
  refine congrArg₂ (fun a b => concatenate S4x1000x2 2 [⟨S4x1000x1, a⟩, ⟨S4x1000x1, b⟩]
    concatenates_S4x1000x1_S4x1000x1_S4x1000x2_d2) ?_ ?_
  · after_reads_simp
    simp only [TRef.toBuf, TRef.ofBuf, cast_eq, id_eq]
    unfold fraction remainder nonzero all places flat
    rfl
  · after_reads_simp
    simp only [TRef.toBuf, TRef.ofBuf, cast_eq, id_eq]
    unfold fraction quotient all places flat
    rfl

end Cert.KernelIdeal.Tail

end
-- ==== Proof.KernelRun.lean ====
/- The kernel's run: its three results are the best scores, their places and their coordinates, of the network's
   scores of the arguments. -/
module

public import proofs.«01_k».proof.Proof.Array
public import proofs.«01_k».proof.Proof.Tail
public import proofs.«01_k».proof.Proof.Gen.KernelIdeal.Frame
public import Idealize.ShloMosaic.Lib.Claim

@[expose] public section

set_option maxRecDepth 16384

noncomputable section

namespace Cert.KernelIdeal.Run

open Idealize.ShloMosaic hiding ix1 ix2 ix3 ix4
open Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ)

/-- The network's scores of the kernel's arguments, image by image. -/
def scores (c : Dev nD) : Vec Ideal S4x16384 .f32 := fun i =>
  Spec.score (m ((c : Thread nD τ).loc main_arg0)) (m ((c : Thread nD τ).loc main_arg1))
    (m ((c : Thread nD τ).loc main_arg2)) (m ((c : Thread nD τ).loc main_arg3)) (m ((c : Thread nD τ).loc main_arg4))
    (i 0) (i 1).val

/-- The array that the launch leaves, without its axis of one entry, holds these scores. -/
theorem flat_arr (c : Dev nD) : Tail.flat ((dats m 0 c).arrAt 5 (cfgs 0).N) = scores m c := by
  funext i
  unfold Tail.flat
  rw [Block.arr_eq, shapeCast_apply _ shapeCasts_S4x1x16384_S4x16384 i (ix3 (i 0) 0 (i 1))
    (by rw [Shape.rowMajor_val_three, Shape.rowMajor_val_two]
        show ((i 0).val * 1 + 0) * 16384 + (i 1).val = (i 0).val * 16384 + (i 1).val; omega)]
  rfl

/-- What the memory holds behind the launch, in front of the last operations. -/
abbrev behind (c : Dev nD) : Valuation τ sig (Elt Ideal) :=
  Pipeline.withArrays (cfgs 0).spec c (V0 m c) fun w => (dats m 0 c).arrAt w (cfgs 0).N

/-- There, the launch's output array is what the steps left in it. -/
theorem behind_out (c : Dev nD) : behind m c (Proc.devRef .tc main_v9) = (dats m 0 c).arrAt 5 (cfgs 0).N :=
  Pipeline.withArrays_arr (cfgs 0).spec (by decide) c (V0 m c) (fun w => (dats m 0 c).arrAt w (cfgs 0).N) 5

/-- Every run of the kernel ends with the three results made of the scores, and with the arguments unchanged. -/
theorem run (g : Dev nD → PrngReg) :
    θ_run defs (onTc (τ := τ) (main (F := Ideal))) ⟨m, fun _ => 0, g⟩ fun r => ∀ c : Dev nD,
      r.2.mem ((c : Thread nD τ).loc main_values) = Tail.best (scores m c)
      ∧ r.2.mem ((c : Thread nD τ).loc main_indices) = Tail.places (scores m c)
      ∧ r.2.mem ((c : Thread nD τ).loc main_v21) = Tail.coords (Tail.places (scores m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine θ_run_mono (θ_run_and (run_main m g) (frame m g)) ?_
  rintro r ⟨h, hargs, -⟩ c
  have hflat : Tail.flat (behind m c (Proc.devRef .tc main_v9)) = scores m c := by rw [behind_out, flat_arr]
  refine ⟨?_, ?_, ?_, hargs c⟩
  · exact ((h c).2 main_values (by decide)).trans ((Tail.read_values _).trans (congrArg Tail.best hflat))
  · exact ((h c).2 main_indices (by decide)).trans ((Tail.read_indices _).trans (congrArg Tail.places hflat))
  · exact ((h c).2 main_v21 (by decide)).trans
      ((Tail.read_coords _).trans (congrArg (fun s => Tail.coords (Tail.places s)) hflat))

end Cert.KernelIdeal.Run

end
-- ==== Proof.Reference.lean ====
/- What the reference computes.

   The reference pads the images, and adds nine products of a slice of the weights with a slice of the padded
   images. One lemma, `tap_apply`, reads such a product at an index for any of the nine offsets; `conv_apply`
   adds the nine. `scores_apply` reads the scores: at pixel `q`
   of image `b` they are `Spec.score`. -/
module

public import proofs.«01_k».proof.Proof.Gen.ReferenceIdeal
public import proofs.«01_k».proof.Proof.Spec
public import Idealize.ShloMosaic.Lib.KernelVsHost

@[expose] public section

set_option maxRecDepth 16384

noncomputable section

namespace Cert.ReferenceIdeal.Scores

open Idealize.ShloMosaic
open Idealize.ShloMosaic.ValueIdx Cert.ReferenceIdeal Cert.ReferenceIdeal.Gen
open scoped BigOperators

/-- The images with a border of zeros, as the reference makes it. -/
def padded (x : FVec Ideal S4x384x128x128 .f32) : FVec Ideal S4x384x130x130 .f32 :=
  pad S4x384x130x130 ![0, 0, 1, 1] ![0, 0, 1, 1] ![0, 0, 0, 0] x (sitofp (F := Ideal) .f32 (constantI S_ 32 0#32))
    pads_S4x384x128x128_S4x384x130x130_000_000_110_110 h_S_

/-- One tap of the convolution: the weights at filter place `(d, e)` times the padded images `p` moved by `(d, e)`. -/
def tap (d e : ℕ) (hw : S192x384x3x3.Slices ![0, 0, d, e] S192x384x1x1)
    (hp : S4x384x130x130.Slices ![0, 0, d, e] S4x384x128x128)
    (p : FVec Ideal S4x384x130x130 .f32) (w : FVec Ideal S192x384x3x3 .f32) : FVec Ideal S4x192x128x128 .f32 :=
  transpose S4x192x128x128 [0, 3, 1, 2]
    (Host.dotGeneral dot_S4x384x128x128_S192x384_S4x128x128x192_1_1_023_0_n_n none
      (extractStridedSlice S4x384x128x128 ![0, 0, d, e] p hp)
      (shapeCast S192x384 (extractStridedSlice S192x384x1x1 ![0, 0, d, e] w hw) shapeCasts_S192x384x1x1_S192x384))
    transposes_S4x128x128x192_S4x192x128x128_0_3_1_2

/-- The reference's convolution: zero, and the nine taps added to it. -/
def conv (x : FVec Ideal S4x384x128x128 .f32) (w : FVec Ideal S192x384x3x3 .f32) : FVec Ideal S4x192x128x128 .f32 :=
  addf (addf (addf (addf (addf (addf (addf (addf (addf
    (broadcastInDim S4x192x128x128 ![] bcast_S_S4x192x128x128 (constant S_ .f32 0x00000000#32))
    (tap 0 0 slices_S192x384x3x3_S192x384x1x1_0_0_0_0 slices_S4x384x130x130_S4x384x128x128_0_0_0_0 (padded x) w))
    (tap 0 1 slices_S192x384x3x3_S192x384x1x1_0_0_0_1 slices_S4x384x130x130_S4x384x128x128_0_0_0_1 (padded x) w))
    (tap 0 2 slices_S192x384x3x3_S192x384x1x1_0_0_0_2 slices_S4x384x130x130_S4x384x128x128_0_0_0_2 (padded x) w))
    (tap 1 0 slices_S192x384x3x3_S192x384x1x1_0_0_1_0 slices_S4x384x130x130_S4x384x128x128_0_0_1_0 (padded x) w))
    (tap 1 1 slices_S192x384x3x3_S192x384x1x1_0_0_1_1 slices_S4x384x130x130_S4x384x128x128_0_0_1_1 (padded x) w))
    (tap 1 2 slices_S192x384x3x3_S192x384x1x1_0_0_1_2 slices_S4x384x130x130_S4x384x128x128_0_0_1_2 (padded x) w))
    (tap 2 0 slices_S192x384x3x3_S192x384x1x1_0_0_2_0 slices_S4x384x130x130_S4x384x128x128_0_0_2_0 (padded x) w))
    (tap 2 1 slices_S192x384x3x3_S192x384x1x1_0_0_2_1 slices_S4x384x130x130_S4x384x128x128_0_0_2_1 (padded x) w))
    (tap 2 2 slices_S192x384x3x3_S192x384x1x1_0_0_2_2 slices_S4x384x130x130_S4x384x128x128_0_0_2_2 (padded x) w)

/-- The hidden layer: the convolution, its bias, the rectifier. -/
def hidden (x : FVec Ideal S4x384x128x128 .f32) (w1 : FVec Ideal S192x384x3x3 .f32) (b1 : FVec Ideal S192 .f32) :
    FVec Ideal S4x192x128x128 .f32 :=
  maximumf
    (addf (conv x w1) (broadcastInDim S4x192x128x128 ![0, 1, 2, 3] bcast_S1x192x1x1_S4x192x128x128_0_1_2_3
      (broadcastInDim S1x192x1x1 ![1] bcast_S192_S1x192x1x1_1 b1)))
    (broadcastInDim S4x192x128x128 ![] bcast_S_S4x192x128x128 (constant S_ .f32 0x00000000#32))

/-- The sum in front of the logistic function. -/
def logit (x : FVec Ideal S4x384x128x128 .f32) (w1 : FVec Ideal S192x384x3x3 .f32) (b1 : FVec Ideal S192 .f32)
    (w2 : FVec Ideal S1x192x1x1 .f32) (b2 : FVec Ideal S1 .f32) : FVec Ideal S4x1x128x128 .f32 :=
  addf
    (transpose S4x1x128x128 [0, 3, 1, 2]
      (Host.dotGeneral dot_S4x192x128x128_S1x192_S4x128x128x1_1_1_023_0_n_n none (hidden x w1 b1)
        (shapeCast S1x192 w2 shapeCasts_S1x192x1x1_S1x192))
      transposes_S4x128x128x1_S4x1x128x128_0_3_1_2)
    (broadcastInDim S4x1x128x128 ![0, 1, 2, 3] bcast_S1x1x1x1_S4x1x128x128_0_1_2_3
      (broadcastInDim S1x1x1x1 ![1] bcast_S1_S1x1x1x1_1 b2))

/-- An array of ones. -/
def ones : FVec Ideal S4x1x128x128 .f32 :=
  broadcastInDim S4x1x128x128 ![] bcast_S_S4x1x128x128 (constant (F := Ideal) S_ .f32 0x3F800000#32)

/-- The reference's scores. -/
def scores (x : FVec Ideal S4x384x128x128 .f32) (w1 : FVec Ideal S192x384x3x3 .f32) (b1 : FVec Ideal S192 .f32)
    (w2 : FVec Ideal S1x192x1x1 .f32) (b2 : FVec Ideal S1 .f32) : FVec Ideal S4x16384 .f32 :=
  shapeCast S4x16384 (Host.divf ones (addf ones (Host.exp (Host.negf (logit x w1 b1 w2 b2)))))
    shapeCasts_S4x1x128x128_S4x16384

/-- The padded images are the images with a border of zeros. -/
theorem padded_apply (x : FVec Ideal S4x384x128x128 .f32) (b : Fin 4) (c : Fin 384) (y z : Fin 130) :
    padded x (ix4 b c y z) = Spec.border x b c y.val z.val := by
  unfold padded Spec.border
  split
  · rename_i h
    refine pad_apply_of_inside _ _ _ _ _ _ _ _ _ fun a => ?_
    fin_cases a
    · show b.val = 0 + b.val * (0 + 1); omega
    · show c.val = 0 + c.val * (0 + 1); omega
    · show y.val = 1 + (y.val - 1) * (0 + 1); omega
    · show z.val = 1 + (z.val - 1) * (0 + 1); omega
  · rename_i h
    have zero : ∀ i, sitofp (F := Ideal) .f32 (constantI S_ 32 0#32) i = 0 := fun i => by
      show (((0#32 : BitVec 32).toInt : ℝ) : EReal) = 0
      simp
    rcases not_and_or.mp h with hy | hz
    · refine (pad_apply_of_not_inside _ _ _ _ _ _ _ _ 2 ?_).trans (zero _)
      show ¬(1 ≤ y.val ∧ (y.val - 1) % (0 + 1) = 0 ∧ (y.val - 1) / (0 + 1) < 128)
      omega
    · refine (pad_apply_of_not_inside _ _ _ _ _ _ _ _ 3 ?_).trans (zero _)
      show ¬(1 ≤ z.val ∧ (z.val - 1) % (0 + 1) = 0 ∧ (z.val - 1) / (0 + 1) < 128)
      omega

/-- A product over the channels, read at an index. -/
theorem channels_dot (a : FVec Ideal S4x384x128x128 .f32) (w : FVec Ideal S192x384 .f32)
    (b : Fin 4) (y z : Fin 128) (o : Fin 192) :
    Host.dotGeneral dot_S4x384x128x128_S192x384_S4x128x128x192_1_1_023_0_n_n none a w (ix4 b y z o)
      = ∑ c : Fin 384, a (ix4 b c y z) * w (ix2 o c) := by
  simp only [Host.dotGeneral]
  rw [Ideal.dotGeneral_apply,
    ← Equiv.sum_comp (contrEquiv1 dot_S4x384x128x128_S192x384_S4x128x128x192_1_1_023_0_n_n 384 rfl rfl).symm]
  refine Finset.sum_congr rfl fun k _ => ?_
  refine congrArg₂ (fun i j => a i * w j) (funext fun d => Fin.ext ?_) (funext fun d => Fin.ext ?_)
  · fin_cases d <;> rfl
  · fin_cases d <;> rfl

/-- A tap on the padded images, read at an index. -/
theorem tap_apply (d e : Fin 3) (hw : S192x384x3x3.Slices ![0, 0, d.val, e.val] S192x384x1x1)
    (hp : S4x384x130x130.Slices ![0, 0, d.val, e.val] S4x384x128x128)
    (x : FVec Ideal S4x384x128x128 .f32) (w : FVec Ideal S192x384x3x3 .f32)
    (b : Fin 4) (o : Fin 192) (y z : Fin 128) :
    tap d.val e.val hw hp (padded x) w (ix4 b o y z)
      = ∑ c : Fin 384, w (ix4 o c d e) * Spec.border x b c (y.val + d.val) (z.val + e.val) := by
  unfold tap
  rw [transpose_apply [0, 3, 1, 2] _ transposes_S4x128x128x192_S4x192x128x128_0_3_1_2 (ix4 b o y z) (ix4 b y z o)
    (fun a => by fin_cases a <;> rfl), channels_dot]
  refine Finset.sum_congr rfl fun c _ => ?_
  rw [mul_comm]
  refine congrArg₂ (· * ·) ?_ ?_
  · rw [shapeCast_apply _ shapeCasts_S192x384x1x1_S192x384 (ix2 o c) (ix4 o c 0 0)
      (by rw [Shape.rowMajor_val_four, Shape.rowMajor_val_two]
          show ((o.val * 384 + c.val) * 1 + 0) * 1 + 0 = o.val * 384 + c.val; omega)]
    refine extractStridedSlice_apply _ w hw _ _ fun a => ?_
    fin_cases a
    · show o.val = 0 + o.val; omega
    · show c.val = 0 + c.val; omega
    · show d.val = d.val + 0; omega
    · show e.val = e.val + 0; omega
  · rw [← padded_apply x b c ⟨y.val + d.val, by omega⟩ ⟨z.val + e.val, by omega⟩]
    refine extractStridedSlice_apply _ _ hp _ _ fun a => ?_
    fin_cases a
    · show b.val = 0 + b.val; omega
    · show c.val = 0 + c.val; omega
    · show y.val + d.val = d.val + y.val; omega
    · show z.val + e.val = e.val + z.val; omega

/-- The nine taps added: the convolution. -/
theorem conv_apply (x : FVec Ideal S4x384x128x128 .f32) (w : FVec Ideal S192x384x3x3 .f32)
    (b : Fin 4) (o : Fin 192) (q : ℕ) (hq : q < 16384) :
    conv x w (ix4 b o ⟨q / 128, by omega⟩ ⟨q % 128, by omega⟩) = Spec.conv x w b q o := by
  unfold Spec.conv
  rw [← Spec.sum_nine]
  refine congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) Ideal.ofBits_zero_f32
    (tap_apply 0 0 _ _ x w b o _ _)) (tap_apply 0 1 _ _ x w b o _ _)) (tap_apply 0 2 _ _ x w b o _ _))
    (tap_apply 1 0 _ _ x w b o _ _)) (tap_apply 1 1 _ _ x w b o _ _)) (tap_apply 1 2 _ _ x w b o _ _))
    (tap_apply 2 0 _ _ x w b o _ _)) (tap_apply 2 1 _ _ x w b o _ _)) (tap_apply 2 2 _ _ x w b o _ _)

/-- The hidden layer, read at an index. -/
theorem hidden_apply (x : FVec Ideal S4x384x128x128 .f32) (w1 : FVec Ideal S192x384x3x3 .f32) (b1 : FVec Ideal S192 .f32)
    (b : Fin 4) (o : Fin 192) (q : ℕ) (hq : q < 16384) :
    hidden x w1 b1 (ix4 b o ⟨q / 128, by omega⟩ ⟨q % 128, by omega⟩) = max (Spec.conv x w1 b q o + b1 (ix1 o)) 0 := by
  refine congrArg₂ max (congrArg₂ (· + ·) (conv_apply x w1 b o q hq) ?_) Ideal.ofBits_zero_f32
  rw [broadcastInDim_apply _ bcast_S1x192x1x1_S4x192x128x128_0_1_2_3 _ _ (ix4 0 o 0 0) (fun a => by fin_cases a <;> rfl)]
  exact broadcastInDim_apply _ bcast_S192_S1x192x1x1_1 _ _ (ix1 o) (fun a => by fin_cases a <;> rfl)

/-- The product of the hidden layer with the second weights, read at an index. -/
theorem hidden_dot (a : FVec Ideal S4x192x128x128 .f32) (w : FVec Ideal S1x192 .f32) (b : Fin 4) (y z : Fin 128) :
    Host.dotGeneral dot_S4x192x128x128_S1x192_S4x128x128x1_1_1_023_0_n_n none a w (ix4 b y z 0)
      = ∑ o : Fin 192, a (ix4 b o y z) * w (ix2 0 o) := by
  simp only [Host.dotGeneral]
  rw [Ideal.dotGeneral_apply,
    ← Equiv.sum_comp (contrEquiv1 dot_S4x192x128x128_S1x192_S4x128x128x1_1_1_023_0_n_n 192 rfl rfl).symm]
  refine Finset.sum_congr rfl fun k _ => ?_
  refine congrArg₂ (fun i j => a i * w j) (funext fun d => Fin.ext ?_) (funext fun d => Fin.ext ?_)
  · fin_cases d <;> rfl
  · fin_cases d <;> rfl

/-- The sum in front of the logistic function, read at an index. -/
theorem logit_apply (x : FVec Ideal S4x384x128x128 .f32) (w1 : FVec Ideal S192x384x3x3 .f32) (b1 : FVec Ideal S192 .f32)
    (w2 : FVec Ideal S1x192x1x1 .f32) (b2 : FVec Ideal S1 .f32) (b : Fin 4) (q : ℕ) (hq : q < 16384) :
    logit x w1 b1 w2 b2 (ix4 b 0 ⟨q / 128, by omega⟩ ⟨q % 128, by omega⟩)
      = (∑ o : Fin 192, w2 (ix4 0 o 0 0) * max (Spec.conv x w1 b q o + b1 (ix1 o)) 0) + b2 (ix1 0) := by
  refine congrArg₂ (· + ·) ?_ ?_
  · rw [transpose_apply [0, 3, 1, 2] _ transposes_S4x128x128x1_S4x1x128x128_0_3_1_2 _
      (ix4 b ⟨q / 128, by omega⟩ ⟨q % 128, by omega⟩ 0) (fun a => by fin_cases a <;> rfl), hidden_dot]
    refine Finset.sum_congr rfl fun o _ => ?_
    rw [hidden_apply x w1 b1 b o q hq, mul_comm]
    refine congrArg (· * _) (shapeCast_apply _ shapeCasts_S1x192x1x1_S1x192 (ix2 0 o) (ix4 0 o 0 0) ?_)
    rw [Shape.rowMajor_val_four, Shape.rowMajor_val_two]
    show ((0 * 192 + o.val) * 1 + 0) * 1 + 0 = 0 * 192 + o.val; omega
  · rw [broadcastInDim_apply _ bcast_S1x1x1x1_S4x1x128x128_0_1_2_3 _ _ (ix4 0 0 0 0) (fun a => by fin_cases a <;> rfl)]
    exact broadcastInDim_apply _ bcast_S1_S1x1x1x1_1 _ _ (ix1 0) (fun a => by fin_cases a <;> rfl)

/-- The scores, read at an index. -/
theorem scores_apply (x : FVec Ideal S4x384x128x128 .f32) (w1 : FVec Ideal S192x384x3x3 .f32) (b1 : FVec Ideal S192 .f32)
    (w2 : FVec Ideal S1x192x1x1 .f32) (b2 : FVec Ideal S1 .f32) (b : Fin 4) (q : Fin 16384) :
    scores x w1 b1 w2 b2 (ix2 b q) = Spec.score x w1 b1 w2 b2 b q.val := by
  unfold scores Spec.score
  rw [shapeCast_apply _ shapeCasts_S4x1x128x128_S4x16384 (ix2 b q)
    (ix4 b 0 ⟨q.val / 128, by omega⟩ ⟨q.val % 128, by omega⟩)
    (by rw [Shape.rowMajor_val_four, Shape.rowMajor_val_two]
        show ((b.val * 1 + 0) * 128 + q.val / 128) * 128 + q.val % 128 = b.val * 16384 + q.val; omega),
    ← logit_apply x w1 b1 w2 b2 b q.val q.isLt]
  have one : ∀ i, ones i = 1 := fun i => by
    show Ideal.ofBits .f32 0x3F800000#32 = 1
    simp [Ideal.ofBits, Ideal.ieee, -EReal.coe_mul]
    norm_num
  show Ideal.div (ones _) (ones _ + Ideal.exp (-_)) = _
  rw [one]
  rfl

end Cert.ReferenceIdeal.Scores

end
-- ==== Proof.RefRun.lean ====
/- The reference's run.

   The reference is a straight line of host operations. It is cut at the scores: `read_scores` says that the
   operations in front of the cut leave `Scores.scores` of the arguments, and `read_values`, `read_indices`,
   `read_coords` that the rest makes of the scores what the kernel's last operations make of them. -/
module

public import proofs.«01_k».proof.Proof.Reference
public import proofs.«01_k».proof.Proof.Tail
public import Idealize.ShloMosaic.Lib.StableHlo.RunHlo
public import Idealize.ShloMosaic.Lib.Pipeline.Frame
public import Idealize.ShloMosaic.Lib.Quiescent

@[expose] public section

set_option maxRecDepth 16384

noncomputable section

namespace Cert.ReferenceIdeal.RefRun

open Idealize.ShloMosaic Idealize.ShloMosaic.TcCoe Idealize.SL.Sem Idealize.ShloMosaic.StableHlo
open Cert.ReferenceIdeal Cert.ReferenceIdeal.Gen
open Cert.KernelIdeal.Tail (best places coords fraction quotient remainder nonzero all)

/-- The reference's operations, read off its text. -/
def line : { ops : List (HloOp τ sig (Elt Ideal)) // ∀ d, IsSeq (main (F := Ideal) d) ops } := by
  apply Subtype.mk
  hlo_seq

/-- The operations up to the scores. -/
abbrev front : List (HloOp τ sig (Elt Ideal)) := line.1.take 80

/-- The operations behind the scores. -/
abbrev back : List (HloOp τ sig (Elt Ideal)) := line.1.drop 80

variable (V : Valuation τ sig (Elt Ideal))

/-- The operations up to the scores leave the scores of the arguments. -/
theorem read_scores : after front V (Proc.devRef .tc main_v72)
    = Scores.scores (V (Proc.devRef .tc main_arg0)) (V (Proc.devRef .tc main_arg1)) (V (Proc.devRef .tc main_arg2))
        (V (Proc.devRef .tc main_arg3)) (V (Proc.devRef .tc main_arg4)) := by
  after_reads_simp
  simp only [TRef.toBuf, TRef.ofBuf, cast_eq]
  unfold Scores.scores Scores.ones Scores.logit Scores.hidden Scores.conv Scores.tap Scores.padded
  rfl

/-- The first result, from the scores. -/
theorem read_values : after back V (Proc.devRef .tc main_values) = best (V (Proc.devRef .tc main_v72)) := by
  after_reads_simp
  rfl

/-- The second result, from the scores. -/
theorem read_indices : after back V (Proc.devRef .tc main_indices) = places (V (Proc.devRef .tc main_v72)) := by
  after_reads_simp
  rfl

/-- The third result, from the scores. -/
theorem read_coords : after back V (Proc.devRef .tc main_v83) = coords (places (V (Proc.devRef .tc main_v72))) := by
  after_reads_simp
  refine congrArg₂ (fun a b => concatenate S4x1000x2 2 [⟨S4x1000x1, a⟩, ⟨S4x1000x1, b⟩]
    concatenates_S4x1000x1_S4x1000x1_S4x1000x2_d2) ?_ ?_
  · after_reads_simp
    simp only [TRef.toBuf, TRef.ofBuf, cast_eq, id_eq]
    unfold fraction remainder nonzero all places
    rfl
  · after_reads_simp
    simp only [TRef.toBuf, TRef.ofBuf, cast_eq, id_eq]
    unfold fraction quotient all places
    rfl

/-- The whole line is its two parts. -/
theorem after_line : after line.1 V = after back (after front V) := by
  rw [← after_append, List.take_append_drop]

/-- The line leaves each argument unchanged. -/
theorem read_args : after line.1 V (Proc.devRef .tc main_arg0) = V (Proc.devRef .tc main_arg0)
    ∧ after line.1 V (Proc.devRef .tc main_arg1) = V (Proc.devRef .tc main_arg1)
    ∧ after line.1 V (Proc.devRef .tc main_arg2) = V (Proc.devRef .tc main_arg2)
    ∧ after line.1 V (Proc.devRef .tc main_arg3) = V (Proc.devRef .tc main_arg3)
    ∧ after line.1 V (Proc.devRef .tc main_arg4) = V (Proc.devRef .tc main_arg4) := by
  refine ⟨?_, ?_, ?_, ?_, ?_⟩ <;> after_reads_simp

variable (m : (ℓ : Loc nD τ sig) → Buf (Elt Ideal) ℓ)

/-- The reference's scores of its arguments. -/
def scores (c : Dev nD) : Vec Ideal S4x16384 .f32 :=
  Scores.scores (m ((c : Thread nD τ).loc main_arg0)) (m ((c : Thread nD τ).loc main_arg1))
    (m ((c : Thread nD τ).loc main_arg2)) (m ((c : Thread nD τ).loc main_arg3)) (m ((c : Thread nD τ).loc main_arg4))

/-- Every run of the reference ends with the three results made of the scores, with the arguments unchanged and every
    counter at zero. -/
theorem run (g : Dev nD → PrngReg) :
    θ_run defs (onTc (τ := τ) (main (F := Ideal))) ⟨m, fun _ => 0, g⟩ fun r => (∀ c : Dev nD,
      r.2.mem ((c : Thread nD τ).loc main_values) = best (scores m c)
      ∧ r.2.mem ((c : Thread nD τ).loc main_indices) = places (scores m c)
      ∧ r.2.mem ((c : Thread nD τ).loc main_v83) = coords (places (scores m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0 := by
  refine θ_run_mono (run_hlo defs main line.2 (by decide) (by decide) (by simp [line])
    (by intro _ h; (repeat (cases h with | head => rfl | tail _ h => ?_)); exact nomatch h) m g) ?_
  intro r h
  refine ⟨fun c => ?_, sem_eq_zero_of_no_sems (by decide) r.2⟩
  have hs : after front (launchContents m c) (Proc.devRef .tc main_v72) = scores m c := read_scores _
  refine ⟨?_, ?_, ?_, ?_⟩
  · rw [h c main_values, after_line, read_values, hs]
  · rw [h c main_indices, after_line, read_indices, hs]
  · rw [h c main_v83, after_line, read_coords, hs]
  · have ha := read_args (launchContents m c)
    exact ⟨(h c _).trans ha.1, (h c _).trans ha.2.1, (h c _).trans ha.2.2.1, (h c _).trans ha.2.2.2.1,
      (h c _).trans ha.2.2.2.2⟩

end Cert.ReferenceIdeal.RefRun

end
-- ==== Proof.lean ====
/- The proof of the claims on the proposal kernel (proofs.«01_k».Defs): the three programs end with their arguments
   unchanged and every counter at zero, the idealized kernel is the kernel's own text, and the kernel and the reference
   give the same three results on equal arguments.

   Both runs' results are made in the same way of the scores (`KernelRun`, `RefRun`); both programs' scores are
   `Spec.score` of the arguments (`Array`, `Reference`). What is left here is to put the two together. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelRun
public import proofs.«01_k».proof.Proof.RefRun
public import Idealize.ShloMosaic.Lib.Claim
public import Idealize.ShloMosaic.Adequacy
public import Idealize.ShloMosaic.Init

@[expose] public section

noncomputable section

namespace Cert.Proof

open Idealize.ShloMosaic hiding ix1 ix2 ix3 ix4
open Idealize.ShloMosaic.ValueIdx Idealize.ShloMosaic.TcCoe Idealize.SL.Sem

/-- On equal arguments the reference's scores are the kernel's. -/
theorem scores_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.RefRun.scores m' c = Cert.KernelIdeal.Run.scores m c := by
  funext i
  obtain ⟨b, q, rfl⟩ : ∃ b q, i = ValueIdx.ix2 b q := ⟨i 0, i 1, ValueIdx.eq_ix2 i⟩
  unfold Cert.ReferenceIdeal.RefRun.scores
  rw [h0, h1, h2, h3, h4]
  exact Cert.ReferenceIdeal.Scores.scores_apply _ _ _ _ _ b q

/-- The reference leaves its arguments unchanged, and every counter at zero. -/
theorem reference_frame : Cert.quiescent_ReferenceIdeal := by
  intro m ρ _
  exact θ_run_mono (Cert.ReferenceIdeal.RefRun.run m ρ) fun r h => ⟨fun c => (h.1 c).2.2.2, h.2⟩

/-- The kernel and the reference end with the same best scores, places and coordinates. -/
theorem algebraic : Cert.algebraic_KernelIdeal_ReferenceIdeal := by
  intro m g m' g' _ hagree
  have hs := fun c => scores_eq m m' c (hagree c).1 (hagree c).2.1 (hagree c).2.2.1 (hagree c).2.2.2.1
    (hagree c).2.2.2.2
  refine ⟨fun c => Cert.KernelIdeal.Tail.best (Cert.KernelIdeal.Run.scores m c),
    fun c => Cert.KernelIdeal.Tail.places (Cert.KernelIdeal.Run.scores m c),
    fun c => Cert.KernelIdeal.Tail.coords (Cert.KernelIdeal.Tail.places (Cert.KernelIdeal.Run.scores m c)), ?_, ?_⟩
  · exact Cert.KernelIdeal.Run.run m g
  · refine θ_run_mono (Cert.ReferenceIdeal.RefRun.run m' g') fun r h c => ?_
    have hc := h.1 c
    rw [hs c] at hc
    exact hc

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial,
    algebraic⟩

end Cert.Proof

end
